-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S2x512x768 : Shape := ⟨3, ![2, 512, 768]⟩
abbrev S768x256 : Shape := ⟨2, ![768, 256]⟩
abbrev S256 : Shape := ⟨1, ![256]⟩
abbrev S2x1024x128 : Shape := ⟨3, ![2, 1024, 128]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S2x1024x128 : S_.BroadcastsInDim S2x1024x128 (![] : Fin 0 → Fin S2x1024x128.rank)
  reducesTo_S2x1024x128_S_d0_1_2 : S2x1024x128.ReducesTo [0, 1, 2] S_

variable [Facts]

def fn_part1 {F : FTy → Type} [FloatOps F] (main_v13 : IVec S_ 1) (main_v16 : IVec S2x1024x128 1) : IVec S_ 1 :=
  let main_c_5 : IVec S_ 1 := constantI S_ 1 1#1
  let main_v17 : IVec S_ 1 := (fun x v => Host.reduce IntOp.andi x v reducesTo_S2x1024x128_S_d0_1_2 h_S_) main_v16 main_c_5
  let main_v18 : IVec S_ 1 := andi main_v13 main_v17
  main_v18

def fn {F : FTy → Type} [FloatOps F] (main_arg0 : FVec F S2x512x768 .f32) (main_arg1 : FVec F S768x256 .f32) (main_arg2 : FVec F S256 .f32) (main_arg3 : FVec F S2x1024x128 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2x1024x128 .f32 := Host.absf main_arg3
  let main_cst_4 : FVec F S_ .f32 := constant S_ .f32 0x7F800000#32
  let main_v15 : FVec F S2x1024x128 .f32 := broadcastInDim S2x1024x128 ![] bcast_S_S2x1024x128 main_cst_4
  let main_v16 : IVec S2x1024x128 1 := cmpf .olt main_v14 main_v15
  fn_part1 (F := F) main_v13 main_v16
-- ==== KernelIdeal.lean ====
abbrev S2x512x768 : Shape := ⟨3, ![2, 512, 768]⟩
abbrev S768x256 : Shape := ⟨2, ![768, 256]⟩
abbrev S256 : Shape := ⟨1, ![256]⟩
abbrev S2x1024x128 : Shape := ⟨3, ![2, 1024, 128]⟩
abbrev S1024x768 : Shape := ⟨2, ![1024, 768]⟩
abbrev S2048x128 : Shape := ⟨2, ![2048, 128]⟩
abbrev S2x1024x1024 : Shape := ⟨3, ![2, 1024, 1024]⟩
abbrev S16x128 : Shape := ⟨2, ![16, 128]⟩
abbrev S1x1 : Shape := ⟨2, ![1, 1]⟩
abbrev S256x768 : Shape := ⟨2, ![256, 768]⟩
abbrev S2x256x1024 : Shape := ⟨3, ![2, 256, 1024]⟩
abbrev S2x1024 : Shape := ⟨2, ![2, 1024]⟩
abbrev S256x256 : Shape := ⟨2, ![256, 256]⟩
abbrev S1x256 : Shape := ⟨2, ![1, 256]⟩
abbrev S256x1024 : Shape := ⟨2, ![256, 1024]⟩
abbrev S256x128 : Shape := ⟨2, ![256, 128]⟩
abbrev S1x1024x128 : Shape := ⟨3, ![1, 1024, 128]⟩
abbrev S1024x128 : Shape := ⟨2, ![1024, 128]⟩
abbrev S256x1 : Shape := ⟨2, ![256, 1]⟩
abbrev S1024 : Shape := ⟨1, ![1024]⟩
abbrev S1x1024 : Shape := ⟨2, ![1, 1024]⟩
abbrev S1x256x1024 : Shape := ⟨3, ![1, 256, 1024]⟩
abbrev S2x128 : Shape := ⟨2, ![2, 128]⟩
abbrev S1 : Shape := ⟨1, ![1]⟩
abbrev S2048 : Shape := ⟨1, ![2048]⟩
abbrev S2x512x256 : Shape := ⟨3, ![2, 512, 256]⟩
abbrev S64 : Shape := ⟨1, ![64]⟩
abbrev S64x128 : Shape := ⟨2, ![64, 128]⟩
abbrev S_ : Shape := ⟨0, ![]⟩
abbrev S1x64x128 : Shape := ⟨3, ![1, 64, 128]⟩
abbrev S2x2x512x1024 : Shape := ⟨4, ![2, 2, 512, 1024]⟩

abbrev nBuf : Table → Nat
  | .hbm => 15
  | .local .tc .vmem => 12
  | .local .scVector .vmem => 2
  | _ => 0

abbrev bufTy : (tb : Table) → Fin (nBuf tb) → BufTy
  | .hbm, ⟨0, _⟩ => ⟨S2x512x768, .f32⟩
  | .hbm, ⟨1, _⟩ => ⟨S768x256, .f32⟩
  | .hbm, ⟨2, _⟩ => ⟨S256, .f32⟩
  | .hbm, ⟨3, _⟩ => ⟨S2x1024x128, .f32⟩
  | .hbm, ⟨4, _⟩ => ⟨S1024x768, .f32⟩
  | .hbm, ⟨5, _⟩ => ⟨S2048x128, .f32⟩
  | .hbm, ⟨6, _⟩ => ⟨S2x1024x1024, .f32⟩
  | .hbm, ⟨7, _⟩ => ⟨S2x1024x1024, .f32⟩
  | .hbm, ⟨8, _⟩ => ⟨S16x128, .i32⟩
  | .hbm, ⟨9, _⟩ => ⟨S1x1, .f32⟩
  | .hbm, ⟨10, _⟩ => ⟨S2048, .i32⟩
  | .hbm, ⟨11, _⟩ => ⟨S2x512x256, .f32⟩
  | .hbm, ⟨12, _⟩ => ⟨S2x2x512x1024, .f32⟩
  | .hbm, ⟨13, _⟩ => ⟨S2x2x512x1024, .f32⟩
  | .hbm, ⟨14, _⟩ => ⟨S_, .f32⟩
  | .local .tc .vmem, ⟨0, _⟩ => ⟨S256x768, .f32⟩
  | .local .tc .vmem, ⟨1, _⟩ => ⟨S256x768, .f32⟩
  | .local .tc .vmem, ⟨2, _⟩ => ⟨S768x256, .f32⟩
  | .local .tc .vmem, ⟨3, _⟩ => ⟨S256, .f32⟩
  | .local .tc .vmem, ⟨4, _⟩ => ⟨S2x1024x128, .f32⟩
  | .local .tc .vmem, ⟨5, _⟩ => ⟨S2x256x1024, .f32⟩
  | .local .tc .vmem, ⟨6, _⟩ => ⟨S2x256x1024, .f32⟩
  | .local .tc .vmem, ⟨7, _⟩ => ⟨S2x256x1024, .f32⟩
  | .local .tc .vmem, ⟨8, _⟩ => ⟨S2x256x1024, .f32⟩
  | .local .tc .vmem, ⟨9, _⟩ => ⟨S16x128, .i32⟩
  | .local .tc .vmem, ⟨10, _⟩ => ⟨S1x1, .f32⟩
  | .local .tc .vmem, ⟨11, _⟩ => ⟨S2x1024, .f32⟩
  | .local .scVector .vmem, ⟨0, _⟩ => ⟨S64, .i32⟩
  | .local .scVector .vmem, ⟨1, _⟩ => ⟨S64x128, .f32⟩
  | _, _ => ⟨S2x512x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v3_scv : Ref sig .scVector := ⟨.hbm, 10, rfl⟩
abbrev main_v1_scv : Ref sig .scVector := ⟨.hbm, 5, rfl⟩
abbrev main_v4_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def k0_off1 (i : grid0.Coords) (c0_i32_18 : BitVec 32) : Fin 2 → Nat :=
  let arg0 : BitVec 32 := BitVec.ofNat 32 (i 0).val
  let c2_i32 : BitVec 32 := 2#32
  let v41 : BitVec 32 := Scalar.muli arg0 c2_i32
  let v42 : BitVec 32 := Scalar.addi c0_i32_18 v41
  let v43 : Index := Scalar.indexCast v42
  let c0_19 : Index := 0#32
  ![v43.toNat, 0]
def k0_cond2 (i : grid0.Coords) : BitVec 1 :=
  let arg0 : BitVec 32 := BitVec.ofNat 32 (i 0).val
  let c3_i32 : BitVec 32 := 3#32
  let v108 : BitVec 1 := Scalar.cmpi .eq arg0 c3_i32
  let v109 : BitVec 32 := Scalar.extui v108
  let c0_i32_50 : BitVec 32 := 0#32
  let v110 : BitVec 1 := Scalar.cmpi .ne v109 c0_i32_50
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  ![v2.toNat]
def k1_off2 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v1 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v29 c8_i32
  let c0_i32_15 : BitVec 32 := 0#32
  let v43 : BitVec 1 := Scalar.cmpi .ne v42 c0_i32_15
  let v44 : BitVec 1 := Scalar.andi v41 v43
  let v30 : BitVec 32 := Scalar.divsi v29 c8_i32
  let c1_i32_16 : BitVec 32 := 1#32
  let v45 : BitVec 32 := Scalar.subi v30 c1_i32_16
  let v46 : BitVec 32 := Scalar.select v44 v45 v30
  let c8_i32_17 : BitVec 32 := 8#32
  let c0_i32_18 : BitVec 32 := 0#32
  let v47 : BitVec 1 := Scalar.cmpi .eq c8_i32_17 c0_i32_18
  let c1_i32_19 : BitVec 32 := 1#32
  let v48 : BitVec 32 := Scalar.select v47 c1_i32_19 c8_i32_17
  let v49 : BitVec 32 := Scalar.remsi v1 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c64_i32_23 : BitVec 32 := 64#32
  let v57 : BitVec 32 := Scalar.muli v56 c64_i32_23
  let c0_i32 : BitVec 32 := 0#32
  let v4 : BitVec 1 := Scalar.cmpi .sgt v1 c0_i32
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v1 c16_i32_0
  let c0_i32_4 : BitVec 32 := 0#32
  let v16 : BitVec 1 := Scalar.cmpi .ne v15 c0_i32_4
  let v17 : BitVec 1 := Scalar.andi v14 v16
  let v3 : BitVec 32 := Scalar.divsi v1 c16_i32_0
  let c1_i32 : BitVec 32 := 1#32
  let v18 : BitVec 32 := Scalar.subi v3 c1_i32
  let v19 : BitVec 32 := Scalar.select v17 v18 v3
  let c128_i32 : BitVec 32 := 128#32
  let v60 : BitVec 32 := Scalar.muli v19 c128_i32
  ![v46.toNat, v57.toNat, v60.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x512x768 : Shape := ⟨3, ![2, 512, 768]⟩
abbrev S768x256 : Shape := ⟨2, ![768, 256]⟩
abbrev S256 : Shape := ⟨1, ![256]⟩
abbrev S2x1024x128 : Shape := ⟨3, ![2, 1024, 128]⟩
abbrev S2x512x256 : Shape := ⟨3, ![2, 512, 256]⟩
abbrev S1x1x256 : Shape := ⟨3, ![1, 1, 256]⟩
abbrev S2x512x2x128 : Shape := ⟨4, ![2, 512, 2, 128]⟩
abbrev S2x512x1x128 : Shape := ⟨4, ![2, 512, 1, 128]⟩
abbrev S2x512x128 : Shape := ⟨3, ![2, 512, 128]⟩
abbrev S1x1024x128 : Shape := ⟨3, ![1, 1024, 128]⟩
abbrev S1024x128 : Shape := ⟨2, ![1024, 128]⟩
abbrev S1x1x1024x128 : Shape := ⟨4, ![1, 1, 1024, 128]⟩
abbrev S2x512x1024x128 : Shape := ⟨4, ![2, 512, 1024, 128]⟩
abbrev S_ : Shape := ⟨0, ![]⟩
abbrev S2x512x1024 : Shape := ⟨3, ![2, 512, 1024]⟩
abbrev S2x512 : Shape := ⟨2, ![2, 512]⟩
abbrev S2x512x1 : Shape := ⟨3, ![2, 512, 1]⟩
abbrev S1x1x1024 : Shape := ⟨3, ![1, 1, 1024]⟩
abbrev S1x2x512x1024 : Shape := ⟨4, ![1, 2, 512, 1024]⟩
abbrev S2x2x512x1024 : Shape := ⟨4, ![2, 2, 512, 1024]⟩
abbrev S2x1024 : Shape := ⟨2, ![2, 1024]⟩
abbrev S2 : Shape := ⟨1, ![2]⟩

abbrev nBuf : Space → Nat
  | .hbm => 90
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x256, .f32⟩
  | .hbm, ⟨2, _⟩ => ⟨S256, .f32⟩
  | .hbm, ⟨3, _⟩ => ⟨S2x1024x128, .f32⟩
  | .hbm, ⟨4, _⟩ => ⟨S2x512x256, .f32⟩
  | .hbm, ⟨5, _⟩ => ⟨S1x1x256, .f32⟩
  | .hbm, ⟨6, _⟩ => ⟨S2x512x256, .f32⟩
  | .hbm, ⟨7, _⟩ => ⟨S2x512x256, .f32⟩
  | .hbm, ⟨8, _⟩ => ⟨S2x512x2x128, .f32⟩
  | .hbm, ⟨9, _⟩ => ⟨S2x512x1x128, .f32⟩
  | .hbm, ⟨10, _⟩ => ⟨S2x512x128, .f32⟩
  | .hbm, ⟨11, _⟩ => ⟨S1x1024x128, .f32⟩
  | .hbm, ⟨12, _⟩ => ⟨S1024x128, .f32⟩
  | .hbm, ⟨13, _⟩ => ⟨S2x512x1x128, .f32⟩
  | .hbm, ⟨14, _⟩ => ⟨S1x1x1024x128, .f32⟩
  | .hbm, ⟨15, _⟩ => ⟨S2x512x1024x128, .f32⟩
  | .hbm, ⟨16, _⟩ => ⟨S2x512x1024x128, .f32⟩
  | .hbm, ⟨17, _⟩ => ⟨S2x512x1024x128, .f32⟩
  | .hbm, ⟨18, _⟩ => ⟨S2x512x1024x128, .f32⟩
  | .hbm, ⟨19, _⟩ => ⟨S_, .f32⟩
  | .hbm, ⟨20, _⟩ => ⟨S2x512x1024, .f32⟩
  | .hbm, ⟨21, _⟩ => ⟨S2x512x1024, .i32⟩
  | .hbm, ⟨22, _⟩ => ⟨S_, .f32⟩
  | .hbm, ⟨23, _⟩ => ⟨S_, .i32⟩
  | .hbm, ⟨24, _⟩ => ⟨S2x512, .f32⟩
  | .hbm, ⟨25, _⟩ => ⟨S2x512, .i32⟩
  | .hbm, ⟨26, _⟩ => ⟨S2x512x1, .i32⟩
  | .hbm, ⟨27, _⟩ => ⟨S1x1x1024, .i32⟩
  | .hbm, ⟨28, _⟩ => ⟨S2x512x1024, .i32⟩
  | .hbm, ⟨29, _⟩ => ⟨S2x512x1024, .i32⟩
  | .hbm, ⟨30, _⟩ => ⟨S2x512x1024, .i1⟩
  | .hbm, ⟨31, _⟩ => ⟨S2x512x1024, .f32⟩
  | .hbm, ⟨32, _⟩ => ⟨S2x512x128, .f32⟩
  | .hbm, ⟨33, _⟩ => ⟨S2x512x1x128, .f32⟩
  | .hbm, ⟨34, _⟩ => ⟨S2x512x128, .f32⟩
  | .hbm, ⟨35, _⟩ => ⟨S1x1024x128, .f32⟩
  | .hbm, ⟨36, _⟩ => ⟨S1024x128, .f32⟩
  | .hbm, ⟨37, _⟩ => ⟨S2x512x1x128, .f32⟩
  | .hbm, ⟨38, _⟩ => ⟨S1x1x1024x128, .f32⟩
  | .hbm, ⟨39, _⟩ => ⟨S2x512x1024x128, .f32⟩
  | .hbm, ⟨40, _⟩ => ⟨S2x512x1024x128, .f32⟩
  | .hbm, ⟨41, _⟩ => ⟨S2x512x1024x128, .f32⟩
  | .hbm, ⟨42, _⟩ => ⟨S2x512x1024x128, .f32⟩
  | .hbm, ⟨43, _⟩ => ⟨S_, .f32⟩
  | .hbm, ⟨44, _⟩ => ⟨S2x512x1024, .f32⟩
  | .hbm, ⟨45, _⟩ => ⟨S2x512x1024, .i32⟩
  | .hbm, ⟨46, _⟩ => ⟨S_, .f32⟩
  | .hbm, ⟨47, _⟩ => ⟨S_, .i32⟩
  | .hbm, ⟨48, _⟩ => ⟨S2x512, .f32⟩
  | .hbm, ⟨49, _⟩ => ⟨S2x512, .i32⟩
  | .hbm, ⟨50, _⟩ => ⟨S2x512x1, .i32⟩
  | .hbm, ⟨51, _⟩ => ⟨S1x1x1024, .i32⟩
  | .hbm, ⟨52, _⟩ => ⟨S2x512x1024, .i32⟩
  | .hbm, ⟨53, _⟩ => ⟨S2x512x1024, .i32⟩
  | .hbm, ⟨54, _⟩ => ⟨S2x512x1024, .i1⟩
  | .hbm, ⟨55, _⟩ => ⟨S2x512x1024, .f32⟩
  | .hbm, ⟨56, _⟩ => ⟨S2x512x128, .f32⟩
  | .hbm, ⟨57, _⟩ => ⟨S1x2x512x1024, .f32⟩
  | .hbm, ⟨58, _⟩ => ⟨S1x2x512x1024, .f32⟩
  | .hbm, ⟨59, _⟩ => ⟨S2x2x512x1024, .f32⟩
  | .hbm, ⟨60, _⟩ => ⟨S1x2x512x1024, .f32⟩
  | .hbm, ⟨61, _⟩ => ⟨S1x2x512x1024, .f32⟩
  | .hbm, ⟨62, _⟩ => ⟨S2x2x512x1024, .f32⟩
  | .hbm, ⟨63, _⟩ => ⟨S2x512x256, .f32⟩
  | .hbm, ⟨64, _⟩ => ⟨S_, .f32⟩
  | .hbm, ⟨65, _⟩ => ⟨S2x1024, .f32⟩
  | .hbm, ⟨66, _⟩ => ⟨S_, .f32⟩
  | .hbm, ⟨67, _⟩ => ⟨S2x1024, .f32⟩
  | .hbm, ⟨68, _⟩ => ⟨S2x1024, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S_, .f32⟩
  | .hbm, ⟨75, _⟩ => ⟨S2x1024, .f32⟩
  | .hbm, ⟨76, _⟩ => ⟨S2x1024, .f32⟩
  | .hbm, ⟨77, _⟩ => ⟨S_, .f32⟩
  | .hbm, ⟨78, _⟩ => ⟨S2x1024, .f32⟩
  | .hbm, ⟨79, _⟩ => ⟨S2x1024, .f32⟩
  | .hbm, ⟨80, _⟩ => ⟨S2x1024, .f32⟩
  | .hbm, ⟨81, _⟩ => ⟨S2x1024, .f32⟩
  | .hbm, ⟨82, _⟩ => ⟨S_, .f32⟩
  | .hbm, ⟨83, _⟩ => ⟨S2, .f32⟩
  | .hbm, ⟨84, _⟩ => ⟨S2, .f32⟩
  | .hbm, ⟨85, _⟩ => ⟨S2, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_call2_v0 : Ref sig .tc := ⟨.hbm, 45, rfl⟩
abbrev main_call2_cst : Ref sig .tc := ⟨.hbm, 46, rfl⟩
abbrev main_call2_c : Ref sig .tc := ⟨.hbm, 47, rfl⟩
abbrev main_call2_v1_0 : Ref sig .tc := ⟨.hbm, 48, rfl⟩
abbrev main_v30 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_cst_2 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_cst_4 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_7 : Ref sig .tc := ⟨.hbm, 86, rfl⟩
abbrev main_v51 : Ref sig .tc := ⟨.hbm, 87, rfl⟩
abbrev main_cst_8 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Proof.Vq.Base.lean ====
/-
  What every module about the kernel shares: the resource algebra (a copy of the rounds library for the handshakes
  between TensorCore and SparseCore, one for the staging cells of the TensorCore call, one for the transfers'
  counters), the two branch conditions of the TensorCore body in closed form, and the windows' staging memrefs.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Ring
public import Idealize.ShloMosaic.Lib.Tactic
public import Idealize.ShloMosaic.Lib.WordCmp

@[expose] public section

noncomputable section

namespace Cert.Proof.Vq

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The handshakes' part of the algebra. -/
abbrev UH : Type := URounds (GSem nD τ sig) ℕ
/-- The staging cells' part. -/
abbrev UB : Type := UR sig nD τ
/-- The user algebra: handshakes, staging cells, transfer counters. -/
abbrev UU : Type := UH × (UB × Counters)
/-- The machine's algebra this certificate works in. -/
abbrev MM (F : FTy → Type) : Type := MT nD τ sig (HIx 1) (Elt F) ℕ UU ℕ

/-- The embedding of the handshakes' part. -/
abbrev EH : Emb UH (MM F) := embL
/-- The embedding of the staging cells' part. -/
abbrev EP : Emb UB (MM F) :=
  ((Emb.inl : Emb UB (UB × Counters)).trans (Emb.inr : Emb (UB × Counters) UU)).trans
    (uEmb (nD := nD) (τ := τ) (sig := sig) (Ix := HIx 1) (Val := Elt F) (Name := ℕ) (U := UU) (Lvl := ℕ)).toEmb

instance : (EP (F := F)).LandsIn (upEmb : UEmb _ (MM F)) := by unfold EP; infer_instance

/-- The labels of the kernels' and the TensorCore call's own table. -/
abbrev ΛP (F : FTy → Type) : Labels := Pipeline.Sig Λ₀ (Fin 1) fun p => (pcfgs (F := F) p).Adm
/-- The SparseCore configuration of the program. -/
abbrev K (F : FTy → Type) : SparseCore.Cfg τ sig (ΛP F) 1 := sc (F := F)
/-- The body table below the SparseCore's. -/
abbrev D (F : FTy → Type) [FloatOps F] : Defs nD τ sig (Elt F) (ΛP F) := Pipeline.defs pcfgs defs₀

/-- The first branch of the TensorCore body: the point is the first. -/
abbrev isFirst (i : grid0.Coords) : Prop :=
  (Scalar.cmpi .ne (Scalar.extui (Scalar.cmpi .eq (BitVec.ofNat 32 (i 0).val) 0#32)) 0#32) = 1#1
/-- The second branch: the point is the last. -/
abbrev isLast (i : grid0.Coords) : Prop := k0_cond2 i = 1#1

theorem coord_val (t : Fin grid0.N) : (grid0.coords t 0).val = t.val := by
  have ht : t.val < 4 := Nat.lt_of_lt_of_eq t.isLt N_0
  have e0 : (grid0.coords t 0).val = t.val / 1 % 4 := Pipeline.Grid.coords_val t 0 (by decide) rfl
  omega

theorem isFirst_iff (t : Fin grid0.N) : isFirst (grid0.coords t) ↔ t.val = 0 := by
  have ht : t.val < 4 := Nat.lt_of_lt_of_eq t.isLt N_0
  have e0 := coord_val t
  simp only [isFirst, e0]
  word_cmp

theorem isLast_iff (t : Fin grid0.N) : isLast (grid0.coords t) ↔ t.val = 3 := by
  have ht : t.val < 4 := Nat.lt_of_lt_of_eq t.isLt N_0
  have e0 := coord_val t
  simp only [isLast, k0_cond2, e0]
  word_cmp

/-- The scratch that holds the running counts. -/
abbrev cntM : Memref sig .tc .vmem S2x1024 .f32 := Memref.whole cc0_scratch0

end Cert.Proof.Vq

end
-- ==== Proof.Vq.RunA.lean ====
/-
  The TensorCore body at the first point: the inputs are read, the counts are set to zero and then counted up, and the
  pieces each output and the counts end with are named by the run.
-/
module

public import proofs.«01_k».proof.Proof.Vq.Base

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the TensorCore body is handed and hands back, the outputs' contents given by piece lists. -/
abbrev BodySpec (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (x0 : Vec F S256x768 .f32) (x1 : Vec F S768x256 .f32) (x2 : Vec F S256 .f32) (x3 : Vec F S2x1024x128 .f32) (y6 : Vec F S16x128 .i32)
    (cnt : sProp 𝕄) (L4 L5 : List (View.Piece (Elt F) S2x256x1024 .f32)) (L6 : List (View.Piece (Elt F) S16x128 .i32))
    (L7 : List (View.Piece (Elt F) S1x1 .f32)) (L8 : List (View.Piece (Elt F) S2x1024 .f32)) : Prop :=
  ∀ (E : Set ℕ) (Q : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare y6 ∗ (∃ d, owns (c : Thread nD τ) arg8 fullShare d) ∗ cnt
        ∗ (iprop(owns (c : Thread nD τ) arg1 fullShare x0 ∗ owns (c : Thread nD τ) arg2 fullShare x1 ∗ owns (c : Thread nD τ) arg3 fullShare x2 ∗ owns (c : Thread nD τ) arg4 fullShare x3
          ∗ (∃ f, arg5.view.loc (c : Thread nD τ) ↦[arg5.view.set]{fullShare} arg5.view.writes (Elt F) f L4)
          ∗ (∃ f, arg6.view.loc (c : Thread nD τ) ↦[arg6.view.set]{fullShare} arg6.view.writes (Elt F) f L5)
          ∗ (∃ f, ⌜arg7.view.read (Elt F) f = y6⌝ ∗ arg7.view.loc (c : Thread nD τ) ↦[arg7.view.set]{fullShare} arg7.view.writes (Elt F) f L6)
          ∗ (∃ f, arg8.view.loc (c : Thread nD τ) ↦[arg8.view.set]{fullShare} arg8.view.writes (Elt F) f L7)
          ∗ (∃ f, arg9.view.loc (c : Thread nD τ) ↦[arg9.view.set]{fullShare} arg9.view.writes (Elt F) f L8)) -∗ Q ⟨⟩))
      ⊢ wp frame (wpE (defs₀ (F := F)) Variants.none c none) E (cc0__tc_body i arg1 harg1 arg2 harg2 arg3 harg3 arg4 harg4 arg5 harg5 arg6 harg6 arg7 harg7 arg8 harg8 arg9 harg9) Q

set_option maxHeartbeats 1000000 in
/-- The first point's run. -/
noncomputable def runA (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (hc0 : isFirst i) (hc1 : ¬isLast i)
    (x0 : Vec F S256x768 .f32) (x1 : Vec F S768x256 .f32) (x2 : Vec F S256 .f32) (x3 : Vec F S2x1024x128 .f32) (y6 : Vec F S16x128 .i32) :
    { L : List (View.Piece (Elt F) S2x256x1024 .f32) × List (View.Piece (Elt F) S2x256x1024 .f32) × List (View.Piece (Elt F) S16x128 .i32) × List (View.Piece (Elt F) S2x1024 .f32) //
      BodySpec c i arg1 harg1 arg2 harg2 arg3 harg3 arg4 harg4 arg5 harg5 arg6 harg6 arg7 harg7 arg8 harg8 arg9 harg9 x0 x1 x2 x3 y6
        iprop(∃ d, owns (c : Thread nD τ) arg9 fullShare d) L.1 L.2.1 L.2.2.1 [] L.2.2.2 } := by
  refine ⟨⟨?_, ?_, ?_, ?_⟩, fun E K => ?run⟩
  case run =>
    simp only [cc0__tc_body_eq_skeleton]; unfold cc0__tc_body_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists f6; isplitr; · ipureintro; exact hf6
      iexact H6
    isplitl [H7]
    · iexists f7; iexact H7
    iexists _; iexact HS0

end Cert.Proof.Vq

end
-- ==== Proof.Vq.RunB.lean ====
/-
  The TensorCore body at a middle point: as at the first, but the counts are those the point before left.
-/
module

public import proofs.«01_k».proof.Proof.Vq.RunA

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
/-- A middle point's run. -/
noncomputable def runB (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (hc0 : ¬isFirst i) (hc1 : ¬isLast i)
    (x0 : Vec F S256x768 .f32) (x1 : Vec F S768x256 .f32) (x2 : Vec F S256 .f32) (x3 : Vec F S2x1024x128 .f32) (y6 : Vec F S16x128 .i32) (cn : Vec F S2x1024 .f32) :
    { L : List (View.Piece (Elt F) S2x256x1024 .f32) × List (View.Piece (Elt F) S2x256x1024 .f32) × List (View.Piece (Elt F) S16x128 .i32) × List (View.Piece (Elt F) S2x1024 .f32) //
      BodySpec c i arg1 harg1 arg2 harg2 arg3 harg3 arg4 harg4 arg5 harg5 arg6 harg6 arg7 harg7 arg8 harg8 arg9 harg9 x0 x1 x2 x3 y6
        (owns (c : Thread nD τ) arg9 fullShare cn) L.1 L.2.1 L.2.2.1 [] L.2.2.2 } := by
  refine ⟨⟨?_, ?_, ?_, ?_⟩, fun E K => ?run⟩
  case run =>
    simp only [cc0__tc_body_eq_skeleton]; unfold cc0__tc_body_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists f6; isplitr; · ipureintro; exact hf6
      iexact H6
    isplitl [H7]
    · iexists f7; iexact H7
    iexists _; iexact HS0

end Cert.Proof.Vq

end
-- ==== Proof.Vq.RunC.lean ====
/-
  The TensorCore body at the last point: as at a middle one, and the perplexity is computed from the counts and stored.
-/
module

public import proofs.«01_k».proof.Proof.Vq.RunB

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
/-- The last point's run. -/
noncomputable def runC (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (hc0 : ¬isFirst i) (hc1 : isLast i)
    (x0 : Vec F S256x768 .f32) (x1 : Vec F S768x256 .f32) (x2 : Vec F S256 .f32) (x3 : Vec F S2x1024x128 .f32) (y6 : Vec F S16x128 .i32) (cn : Vec F S2x1024 .f32) :
    { L : List (View.Piece (Elt F) S2x256x1024 .f32) × List (View.Piece (Elt F) S2x256x1024 .f32) × List (View.Piece (Elt F) S16x128 .i32) × List (View.Piece (Elt F) S1x1 .f32) × List (View.Piece (Elt F) S2x1024 .f32) //
      BodySpec c i arg1 harg1 arg2 harg2 arg3 harg3 arg4 harg4 arg5 harg5 arg6 harg6 arg7 harg7 arg8 harg8 arg9 harg9 x0 x1 x2 x3 y6
        (owns (c : Thread nD τ) arg9 fullShare cn) L.1 L.2.1 L.2.2.1 L.2.2.2.1 L.2.2.2.2 } := by
  refine ⟨⟨?_, ?_, ?_, ?_, ?_⟩, fun E K => ?run⟩
  case run =>
    simp only [cc0__tc_body_eq_skeleton]; unfold cc0__tc_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists f6; isplitr; · ipureintro; exact hf6
      iexact H6
    isplitl [H7]
    · iexists _; iexact H7
    iexists _; iexact HS0

end Cert.Proof.Vq

end
-- ==== Proof.Vq.TcValues.lean ====
/-
  What the TensorCore body leaves in each buffer at one point, as functions of what it was handed: no buffer, view or
  prior contents occurs in them. Then the three runs restated with these contents.
-/
module

public import proofs.«01_k».proof.Proof.Vq.RunC

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The codevectors of the first group, as the body loads them. -/
def cvA (x3 : Vec F S2x1024x128 .f32) : Vec F S1x1024x128 .f32 :=
  View.ld x3 (Rect.unit (s := S2x1024x128) ![0, 0, 0] S1x1024x128.size inb_S2x1024x128_S1x1024x128_0_0_0)
/-- The codevectors of the second group. -/
def cvB (x3 : Vec F S2x1024x128 .f32) : Vec F S1x1024x128 .f32 :=
  View.ld x3 (Rect.unit (s := S2x1024x128) ![1, 0, 0] S1x1024x128.size inb_S2x1024x128_S1x1024x128_1_0_0)
/-- The column numbers. -/
def colV : IVec S256x1024 32 := iota .tc S256x1024 32 [1] iota_S256x1024_d1_w32

theorem colV_eq : colV = iota .tc S256x1024 32 [1] iota_S256x1024_d1_w32 := rfl

variable (x0 : Vec F S256x768 .f32) (x1 : Vec F S768x256 .f32) (x2 : Vec F S256 .f32) (x3 : Vec F S2x1024x128 .f32)

/-- Candidates of the first group: the column number where the distance is the row's least, a large word elsewhere. -/
def candA : IVec S256x1024 32 := k0_pay6 x0 x1 x2 (cvA x3)
/-- The squared lengths of the second group's codevectors. -/
def lenB : FVec F S1x1024 .f32 := k0_pay13 (cvB x3)
/-- The other two terms of the second group's distances. -/
def partB : FVec F S256x1024 .f32 := k0_pay14 (k0_pay2 x0 x1 x2) (cvB x3)

/-- The distances of the point's 256 rows, both groups. -/
def distW : Vec F S2x256x1024 .f32 :=
  View.canon [⟨Rect.unit (s := S2x256x1024) ![1, 0, 0] S1x256x1024.size inb_S2x256x1024_S1x256x1024_1_0_0, k0_pay16 (lenB x3) (partB x0 x1 x2 x3)⟩,
    ⟨Rect.unit (s := S2x256x1024) ![0, 0, 0] S1x256x1024.size inb_S2x256x1024_S1x256x1024_0_0_0, k0_pay5 x0 x1 x2 (cvA x3)⟩]
/-- The one-hot rows of the point, both groups. -/
def encW : Vec F S2x256x1024 .f32 :=
  View.canon [⟨Rect.unit (s := S2x256x1024) ![1, 0, 0] S1x256x1024.size inb_S2x256x1024_S1x256x1024_1_0_0, k0_pay20 colV (lenB x3) (partB x0 x1 x2 x3)⟩,
    ⟨Rect.unit (s := S2x256x1024) ![0, 0, 0] S1x256x1024.size inb_S2x256x1024_S1x256x1024_0_0_0, k0_pay10 colV (candA x0 x1 x2 x3)⟩]
/-- The index words after the point: two rows of each half overwritten, the others as they were. -/
def idxW (i : grid0.Coords) (y6 : Vec F S16x128 .i32) : Vec F S16x128 .i32 :=
  (Rect.unit (s := S16x128) (k0_off1 i 8#32) S2x128.size (k0_off1_inb i 1)).overlay
    ((Rect.unit (s := S16x128) (k0_off1 i 0#32) S2x128.size (k0_off1_inb i 0)).overlay y6
      (k0_pay8 (candA x0 x1 x2 x3)))
    (k0_pay18 colV (lenB x3) (partB x0 x1 x2 x3))
/-- A row of the counts. -/
def cntA (cn : Vec F S2x1024 .f32) : Vec F S1x1024 .f32 :=
  View.ld cn (Rect.unit (s := S2x1024) ![0, 0] S1x1024.size inb_S2x1024_S1x1024_0_0)
/-- The other row of the counts. -/
def cntB (cn : Vec F S2x1024 .f32) : Vec F S1x1024 .f32 :=
  View.ld cn (Rect.unit (s := S2x1024) ![1, 0] S1x1024.size inb_S2x1024_S1x1024_1_0)
/-- The counts after the point. -/
def cntW (cn : Vec F S2x1024 .f32) : Vec F S2x1024 .f32 :=
  View.canon [⟨Rect.unit (s := S2x1024) ![1, 0] S1x1024.size inb_S2x1024_S1x1024_1_0, k0_pay21 colV (lenB x3) (partB x0 x1 x2 x3) (cntB cn)⟩,
    ⟨Rect.unit (s := S2x1024) ![0, 0] S1x1024.size inb_S2x1024_S1x1024_0_0, k0_pay11 colV (candA x0 x1 x2 x3) (cntA cn)⟩]
/-- The perplexity of given counts. -/
def pplW (cn : Vec F S2x1024 .f32) : Vec F S1x1 .f32 :=
  View.canon [⟨Rect.unit (s := S1x1) ![0, 0] S1x1.size inb_S1x1_S1x1_0_0, k0_pay1 (cntA cn) (cntB cn)⟩]

omit [FloatOps F] in
/-- Two slabs cover the distances' block. -/
theorem cover3 (p q : Vec F S1x256x1024 .f32) (y : S2x256x1024.Idx) :
    ∃ pc ∈ ([⟨Rect.unit (s := S2x256x1024) ![1, 0, 0] S1x256x1024.size inb_S2x256x1024_S1x256x1024_1_0_0, p⟩,
      ⟨Rect.unit (s := S2x256x1024) ![0, 0, 0] S1x256x1024.size inb_S2x256x1024_S1x256x1024_0_0_0, q⟩] : List (View.Piece (Elt F) S2x256x1024 .f32)), y ∈ pc.1.set :=
  View.cover_of_tiledL _ ![1, 256, 1024] (by sl_kernel_rfl) y

omit [FloatOps F] in
/-- Two rows cover the counts. -/
theorem cover2 (p q : Vec F S1x1024 .f32) (y : S2x1024.Idx) :
    ∃ pc ∈ ([⟨Rect.unit (s := S2x1024) ![1, 0] S1x1024.size inb_S2x1024_S1x1024_1_0, p⟩,
      ⟨Rect.unit (s := S2x1024) ![0, 0] S1x1024.size inb_S2x1024_S1x1024_0_0, q⟩] : List (View.Piece (Elt F) S2x1024 .f32)), y ∈ pc.1.set :=
  View.cover_of_tiledL _ ![1, 1024] (by sl_kernel_rfl) y

omit [FloatOps F] in
/-- One piece covers the perplexity's block. -/
theorem cover1 (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  View.cover_of_tiledL _ ![1, 1] (by sl_kernel_rfl) y

omit [FloatOps F] in
/-- One newest write over contents that read `X` leaves the payload laid over `X`. -/
theorem read_writes_overlay {S : Shape} {e : EltTy} {κ : Kind} {sp : Space} (v : View sig κ sp S e) (f : v.ty.Contents (Elt F))
    (p : View.Piece (Elt F) S e) (L : List (View.Piece (Elt F) S e)) (X : S.Idx → Elt F e) (h : v.read (Elt F) (v.writes (Elt F) f L) = X) :
    v.read (Elt F) (v.writes (Elt F) f (p :: L)) = p.1.overlay X p.2 := by
  funext y
  by_cases hy : y ∈ p.1.set
  · obtain ⟨x, rfl⟩ := p.1.exists_idx_of_mem hy
    exact (View.read_writes_cons_emb v f p.1 p.2 L x).trans (p.1.overlay_emb X p.2 x).symm
  · rw [Rect.overlay_of_not_mem _ _ _ hy, ← h]
    exact View.read_writes_cons_miss v f p L y hy

theorem lenB_eq : k0_pay13 (cvB x3) = lenB x3 := rfl
theorem partB_eq : k0_pay14 (k0_pay2 x0 x1 x2) (cvB x3) = partB x0 x1 x2 x3 := rfl
theorem candA_eq : k0_pay6 x0 x1 x2 (cvA x3) = candA x0 x1 x2 x3 := rfl

/-- A row of the counts read back after both were written. -/
theorem covA {sp : Space} (v : View sig .tc sp S2x1024 .f32) (p q : Vec F S1x1024 .f32) :
    v.readCov ([⟨Rect.unit (s := S2x1024) ![1, 0] ![1, 1024] inb_S2x1024_S1x1024_1_0, p⟩,
      ⟨Rect.unit (s := S2x1024) ![0, 0] ![1, 1024] inb_S2x1024_S1x1024_0_0, q⟩] : List (View.Piece (Elt F) S2x1024 .f32))
      (Rect.unit (s := S2x1024) ![0, 0] ![1, 1024] inb_S2x1024_S1x1024_0_0).toLoadRect
      = cntA (View.canon [⟨Rect.unit (s := S2x1024) ![1, 0] ![1, 1024] inb_S2x1024_S1x1024_1_0, p⟩,
      ⟨Rect.unit (s := S2x1024) ![0, 0] ![1, 1024] inb_S2x1024_S1x1024_0_0, q⟩]) := by
  rw [View.readCov_eq_canon_ld _ _ _ (cover2 p q)]
  unfold cntA
  generalize View.canon (Val := Elt F) _ = X
  rfl

/-- The other row read back. -/
theorem covB {sp : Space} (v : View sig .tc sp S2x1024 .f32) (p q : Vec F S1x1024 .f32) :
    v.readCov ([⟨Rect.unit (s := S2x1024) ![1, 0] ![1, 1024] inb_S2x1024_S1x1024_1_0, p⟩,
      ⟨Rect.unit (s := S2x1024) ![0, 0] ![1, 1024] inb_S2x1024_S1x1024_0_0, q⟩] : List (View.Piece (Elt F) S2x1024 .f32))
      (Rect.unit (s := S2x1024) ![1, 0] ![1, 1024] inb_S2x1024_S1x1024_1_0).toLoadRect
      = cntB (View.canon [⟨Rect.unit (s := S2x1024) ![1, 0] ![1, 1024] inb_S2x1024_S1x1024_1_0, p⟩,
      ⟨Rect.unit (s := S2x1024) ![0, 0] ![1, 1024] inb_S2x1024_S1x1024_0_0, q⟩]) := by
  rw [View.readCov_eq_canon_ld _ _ _ (cover2 p q)]
  unfold cntB
  generalize View.canon (Val := Elt F) _ = X
  rfl

/-- What lies under two pieces that cover everything does not matter. -/
theorem canon_two {S : Shape} {e : EltTy} (p q : View.Piece (Elt F) S e) (L : List (View.Piece (Elt F) S e))
    (h : ∀ y, ∃ pc ∈ [p, q], y ∈ pc.1.set) : View.canon (p :: q :: L) = View.canon [p, q] := by
  funext y
  by_cases hp : y ∈ p.1.set
  · obtain ⟨x, rfl⟩ := p.1.exists_idx_of_mem hp
    exact (View.canon_cons_emb p.1 p.2 _ x).trans (View.canon_cons_emb p.1 p.2 _ x).symm
  · rw [View.canon_cons_of_not_mem _ _ hp, View.canon_cons_of_not_mem _ _ hp]
    have hq : y ∈ q.1.set := by
      obtain ⟨pc, hm, hy⟩ := h y
      rcases List.mem_cons.mp hm with rfl | hm
      · exact absurd hy hp
      · rcases List.mem_cons.mp hm with rfl | hm
        · exact hy
        · exact absurd hm List.not_mem_nil
    obtain ⟨x, rfl⟩ := q.1.exists_idx_of_mem hq
    exact (View.canon_cons_emb q.1 q.2 _ x).trans (View.canon_cons_emb q.1 q.2 _ x).symm

omit [FloatOps F] in
/-- The whole of the counts' buffer as one piece covers it; -/
theorem cover_whole (w : Vec F S2x1024 .f32) (L : List (View.Piece (Elt F) S2x1024 .f32)) (y : S2x1024.Idx) :
    ∃ pc ∈ ((⟨Rect.unit (s := S2x1024) ![0, 0] ![2, 1024] inb_S2x1024_S2x1024_0_0, w⟩ :: L) : List (View.Piece (Elt F) S2x1024 .f32)), y ∈ pc.1.set := by
  refine ⟨_, List.mem_cons_self, ?_⟩
  show y ∈ (Rect.unit (s := S2x1024) ![0, 0] ![2, 1024] inb_S2x1024_S2x1024_0_0).set
  rw [Rect.mem_set_unit]
  intro a
  fin_cases a
  · exact ⟨Nat.zero_le _, by simpa using (y 0).isLt⟩
  · exact ⟨Nat.zero_le _, by simpa using (y 1).isLt⟩

/-- and leaves its payload. -/
theorem canon_whole (w : Vec F S2x1024 .f32) (L : List (View.Piece (Elt F) S2x1024 .f32)) :
    View.canon ((⟨Rect.unit (s := S2x1024) ![0, 0] ![2, 1024] inb_S2x1024_S2x1024_0_0, w⟩ :: L) : List (View.Piece (Elt F) S2x1024 .f32)) = w := by
  funext y
  have hy : (Rect.unit (s := S2x1024) ![0, 0] ![2, 1024] inb_S2x1024_S2x1024_0_0).emb y = y := by
    apply Rect.emb_eq_of_coords
    intro a
    fin_cases a <;> exact ((Nat.zero_add _).trans (Nat.one_mul _)).symm
  have h := View.canon_cons_emb (Rect.unit (s := S2x1024) ![0, 0] ![2, 1024] inb_S2x1024_S2x1024_0_0) w L y
  rw [hy] at h
  exact h

/-- The body at one point, every buffer's contents before and after given in closed form: `cn` is what the counts stood
at when the point began to count. -/
abbrev StepSpec (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (x0 : Vec F S256x768 .f32) (x1 : Vec F S768x256 .f32) (x2 : Vec F S256 .f32) (x3 : Vec F S2x1024x128 .f32) (y6 : Vec F S16x128 .i32)
    (cnt : sProp 𝕄) (cn : Vec F S2x1024 .f32) : Prop :=
  ∀ (E : Set ℕ) (Q : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare y6 ∗ (∃ d, owns (c : Thread nD τ) arg8 fullShare d) ∗ cnt
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (distW x0 x1 x2 x3)
          ∗ owns (c : Thread nD τ) arg6 fullShare (encW x0 x1 x2 x3)
          ∗ owns (c : Thread nD τ) arg7 fullShare (idxW x0 x1 x2 x3 i y6)
          ∗ (∃ d, ⌜isLast i → d = pplW (cntW x0 x1 x2 x3 cn)⌝ ∗ owns (c : Thread nD τ) arg8 fullShare d)
          ∗ owns (c : Thread nD τ) arg9 fullShare (cntW x0 x1 x2 x3 cn)) -∗ Q ⟨⟩))
      ⊢ wp frame (wpE (defs₀ (F := F)) Variants.none c none) E (cc0__tc_body i arg1 harg1 arg2 harg2 arg3 harg3 arg4 harg4 arg5 harg5 arg6 harg6 arg7 harg7 arg8 harg8 arg9 harg9) Q

/-- From piece lists to closed forms: what each list of writes reads as. -/
theorem step_of_body (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (y6 : Vec F S16x128 .i32)
    (cnt : sProp 𝕄) (cn : Vec F S2x1024 .f32) (L4 L5 : List (View.Piece (Elt F) S2x256x1024 .f32)) (L6 : List (View.Piece (Elt F) S16x128 .i32))
    (L7 : List (View.Piece (Elt F) S1x1 .f32)) (L8 : List (View.Piece (Elt F) S2x1024 .f32))
    (H : BodySpec c i arg1 harg1 arg2 harg2 arg3 harg3 arg4 harg4 arg5 harg5 arg6 harg6 arg7 harg7 arg8 harg8 arg9 harg9 x0 x1 x2 x3 y6 cnt L4 L5 L6 L7 L8)
    (h4 : ∀ f, arg5.view.read (Elt F) (arg5.view.writes (Elt F) f L4) = distW x0 x1 x2 x3)
    (h5 : ∀ f, arg6.view.read (Elt F) (arg6.view.writes (Elt F) f L5) = encW x0 x1 x2 x3)
    (h6 : ∀ f, arg7.view.read (Elt F) f = y6 → arg7.view.read (Elt F) (arg7.view.writes (Elt F) f L6) = idxW x0 x1 x2 x3 i y6)
    (h7 : isLast i → ∀ f, arg8.view.read (Elt F) (arg8.view.writes (Elt F) f L7) = pplW (cntW x0 x1 x2 x3 cn))
    (h8 : ∀ f, arg9.view.read (Elt F) (arg9.view.writes (Elt F) f L8) = cntW x0 x1 x2 x3 cn) :
    StepSpec c i arg1 harg1 arg2 harg2 arg3 harg3 arg4 harg4 arg5 harg5 arg6 harg6 arg7 harg7 arg8 harg8 arg9 harg9 x0 x1 x2 x3 y6 cnt cn := by
  intro E Q
  refine BIBase.Entails.trans ?_ (H E Q)
  iintro ⟨H0, H1, H2, H3, H4, H5, H6, H7, H8, Hk⟩
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  iintro ⟨H0, H1, H2, H3, ⟨%f4, H4⟩, ⟨%f5, H5⟩, ⟨%f6, %hf6, H6⟩, ⟨%f7, H7⟩, ⟨%f8, H8⟩⟩
  iapply Hk
  isplitl [H0]; iexact H0
  isplitl [H1]; iexact H1
  isplitl [H2]; iexact H2
  isplitl [H3]; iexact H3
  unfold owns
  isplitl [H4]
  · iexists _; isplitr
    · ipureintro; exact h4 f4
    iexact H4
  isplitl [H5]
  · iexists _; isplitr
    · ipureintro; exact h5 f5
    iexact H5
  isplitl [H6]
  · iexists _; isplitr
    · ipureintro; exact h6 f6 hf6
    iexact H6
  isplitl [H7]
  · iexists _; isplitr
    · ipureintro; exact fun hl => h7 hl f7
    iexists _; isplitr
    · ipureintro; rfl
    iexact H7
  iexists _; isplitr
  · ipureintro; exact h8 f8
  iexact H8

set_option maxHeartbeats 1000000 in
set_option maxHeartbeats 400000 in
/-- A middle point. -/
theorem stepB (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (hc0 : ¬isFirst i) (hc1 : ¬isLast i) (y6 : Vec F S16x128 .i32) (cn : Vec F S2x1024 .f32) :
    StepSpec c i arg1 harg1 arg2 harg2 arg3 harg3 arg4 harg4 arg5 harg5 arg6 harg6 arg7 harg7 arg8 harg8 arg9 harg9 x0 x1 x2 x3 y6 (owns (c : Thread nD τ) arg9 fullShare cn) cn := by
  have e0 : View.readAt (Elt F) arg1.view (Rect.unit (s := S256x768) ![0, 0] S256x768.size inb_S256x768_S256x768_0_0).toLoadRect (harg1.unread x0) = x0 := by
    rw [View.readAt_eq_ld, harg1.read_unread]; funext y; exact congrArg x0 (funext fun a => Fin.ext (by fin_cases a <;> exact (Nat.zero_add _).trans (Nat.one_mul _)))
  have d0 : View.readAt (Elt F) arg1.view (Rect.unit (s := S256x768) ![0, 0] ![256, 768] inb_S256x768_S256x768_0_0).toLoadRect (harg1.unread x0) = x0 := e0
  have e1 : View.readAt (Elt F) arg2.view (Rect.unit (s := S768x256) ![0, 0] S768x256.size inb_S768x256_S768x256_0_0).toLoadRect (harg2.unread x1) = x1 := by
    rw [View.readAt_eq_ld, harg2.read_unread]; funext y; exact congrArg x1 (funext fun a => Fin.ext (by fin_cases a <;> exact (Nat.zero_add _).trans (Nat.one_mul _)))
  have d1 : View.readAt (Elt F) arg2.view (Rect.unit (s := S768x256) ![0, 0] ![768, 256] inb_S768x256_S768x256_0_0).toLoadRect (harg2.unread x1) = x1 := e1
  have e2 : View.readAt (Elt F) arg3.view (Rect.unit (s := S256) ![0] S256.size inb_S256_S256_0).toLoadRect (harg3.unread x2) = x2 := by
    rw [View.readAt_eq_ld, harg3.read_unread]; funext y; exact congrArg x2 (funext fun a => Fin.ext (by fin_cases a <;> exact (Nat.zero_add _).trans (Nat.one_mul _)))
  have d2 : View.readAt (Elt F) arg3.view (Rect.unit (s := S256) ![0] ![256] inb_S256_S256_0).toLoadRect (harg3.unread x2) = x2 := e2
  have e3 : View.readAt (Elt F) arg4.view (Rect.unit (s := S2x1024x128) ![0, 0, 0] S1x1024x128.size inb_S2x1024x128_S1x1024x128_0_0_0).toLoadRect (harg4.unread x3) = cvA x3 := by
    rw [View.readAt_eq_ld, harg4.read_unread]; rfl
  have d3 : View.readAt (Elt F) arg4.view (Rect.unit (s := S2x1024x128) ![0, 0, 0] ![1, 1024, 128] inb_S2x1024x128_S1x1024x128_0_0_0).toLoadRect (harg4.unread x3) = cvA x3 := e3
  have e4 : View.readAt (Elt F) arg4.view (Rect.unit (s := S2x1024x128) ![1, 0, 0] S1x1024x128.size inb_S2x1024x128_S1x1024x128_1_0_0).toLoadRect (harg4.unread x3) = cvB x3 := by
    rw [View.readAt_eq_ld, harg4.read_unread]; rfl
  have d4 : View.readAt (Elt F) arg4.view (Rect.unit (s := S2x1024x128) ![1, 0, 0] ![1, 1024, 128] inb_S2x1024x128_S1x1024x128_1_0_0).toLoadRect (harg4.unread x3) = cvB x3 := e4
  have e5 : View.readAt (Elt F) arg9.view (Rect.unit (s := S2x1024) ![0, 0] S1x1024.size inb_S2x1024_S1x1024_0_0).toLoadRect (harg9.unread cn) = cntA cn := by
    rw [View.readAt_eq_ld, harg9.read_unread]; rfl
  have d5 : View.readAt (Elt F) arg9.view (Rect.unit (s := S2x1024) ![0, 0] ![1, 1024] inb_S2x1024_S1x1024_0_0).toLoadRect (harg9.unread cn) = cntA cn := e5
  have e6 : View.readAt (Elt F) arg9.view (Rect.unit (s := S2x1024) ![1, 0] S1x1024.size inb_S2x1024_S1x1024_1_0).toLoadRect (harg9.unread cn) = cntB cn := by
    rw [View.readAt_eq_ld, harg9.read_unread]; rfl
  have d6 : View.readAt (Elt F) arg9.view (Rect.unit (s := S2x1024) ![1, 0] ![1, 1024] inb_S2x1024_S1x1024_1_0).toLoadRect (harg9.unread cn) = cntB cn := e6
  have H := (runB c i arg1 harg1 arg2 harg2 arg3 harg3 arg4 harg4 arg5 harg5 arg6 harg6 arg7 harg7 arg8 harg8 arg9 harg9 hc0 hc1 x0 x1 x2 x3 y6 cn).2
  unfold runB at H
  dsimp only at H
  unfold runB.sl.v101 runB.sl.r_1 runB.sl.r_2 runB.sl.r_3 runB.sl.r runB.sl.v8 at H
  simp only [← colV_eq, e0, d0, e1, d1, e2, d2, e3, d3, e4, d4, e5, d5, e6, d6, lenB_eq, partB_eq, candA_eq] at H
  refine step_of_body x0 x1 x2 x3 c i arg1 harg1 arg2 harg2 arg3 harg3 arg4 harg4 arg5 harg5 arg6 harg6 arg7 harg7 arg8 harg8 arg9 harg9 y6 _ cn _ _ _ _ _ H ?_ ?_ ?_ ?_ ?_
  · intro f; exact View.read_writes_eq_canon _ _ _ (cover3 _ _)
  · intro f; exact View.read_writes_eq_canon _ _ _ (cover3 _ _)
  · intro f hf
    exact read_writes_overlay _ _ _ _ _ (read_writes_overlay _ _ _ _ _ hf)
  · intro hl; exact absurd hl hc1
  · intro f; exact View.read_writes_eq_canon _ _ _ (cover2 _ _)

set_option maxHeartbeats 400000 in
/-- The last point. -/
theorem stepC (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (hc0 : ¬isFirst i) (hc1 : isLast i) (y6 : Vec F S16x128 .i32) (cn : Vec F S2x1024 .f32) :
    StepSpec c i arg1 harg1 arg2 harg2 arg3 harg3 arg4 harg4 arg5 harg5 arg6 harg6 arg7 harg7 arg8 harg8 arg9 harg9 x0 x1 x2 x3 y6 (owns (c : Thread nD τ) arg9 fullShare cn) cn := by
  have e0 : View.readAt (Elt F) arg1.view (Rect.unit (s := S256x768) ![0, 0] S256x768.size inb_S256x768_S256x768_0_0).toLoadRect (harg1.unread x0) = x0 := by
    rw [View.readAt_eq_ld, harg1.read_unread]; funext y; exact congrArg x0 (funext fun a => Fin.ext (by fin_cases a <;> exact (Nat.zero_add _).trans (Nat.one_mul _)))
  have d0 : View.readAt (Elt F) arg1.view (Rect.unit (s := S256x768) ![0, 0] ![256, 768] inb_S256x768_S256x768_0_0).toLoadRect (harg1.unread x0) = x0 := e0
  have e1 : View.readAt (Elt F) arg2.view (Rect.unit (s := S768x256) ![0, 0] S768x256.size inb_S768x256_S768x256_0_0).toLoadRect (harg2.unread x1) = x1 := by
    rw [View.readAt_eq_ld, harg2.read_unread]; funext y; exact congrArg x1 (funext fun a => Fin.ext (by fin_cases a <;> exact (Nat.zero_add _).trans (Nat.one_mul _)))
  have d1 : View.readAt (Elt F) arg2.view (Rect.unit (s := S768x256) ![0, 0] ![768, 256] inb_S768x256_S768x256_0_0).toLoadRect (harg2.unread x1) = x1 := e1
  have e2 : View.readAt (Elt F) arg3.view (Rect.unit (s := S256) ![0] S256.size inb_S256_S256_0).toLoadRect (harg3.unread x2) = x2 := by
    rw [View.readAt_eq_ld, harg3.read_unread]; funext y; exact congrArg x2 (funext fun a => Fin.ext (by fin_cases a <;> exact (Nat.zero_add _).trans (Nat.one_mul _)))
  have d2 : View.readAt (Elt F) arg3.view (Rect.unit (s := S256) ![0] ![256] inb_S256_S256_0).toLoadRect (harg3.unread x2) = x2 := e2
  have e3 : View.readAt (Elt F) arg4.view (Rect.unit (s := S2x1024x128) ![0, 0, 0] S1x1024x128.size inb_S2x1024x128_S1x1024x128_0_0_0).toLoadRect (harg4.unread x3) = cvA x3 := by
    rw [View.readAt_eq_ld, harg4.read_unread]; rfl
  have d3 : View.readAt (Elt F) arg4.view (Rect.unit (s := S2x1024x128) ![0, 0, 0] ![1, 1024, 128] inb_S2x1024x128_S1x1024x128_0_0_0).toLoadRect (harg4.unread x3) = cvA x3 := e3
  have e4 : View.readAt (Elt F) arg4.view (Rect.unit (s := S2x1024x128) ![1, 0, 0] S1x1024x128.size inb_S2x1024x128_S1x1024x128_1_0_0).toLoadRect (harg4.unread x3) = cvB x3 := by
    rw [View.readAt_eq_ld, harg4.read_unread]; rfl
  have d4 : View.readAt (Elt F) arg4.view (Rect.unit (s := S2x1024x128) ![1, 0, 0] ![1, 1024, 128] inb_S2x1024x128_S1x1024x128_1_0_0).toLoadRect (harg4.unread x3) = cvB x3 := e4
  have e5 : View.readAt (Elt F) arg9.view (Rect.unit (s := S2x1024) ![0, 0] S1x1024.size inb_S2x1024_S1x1024_0_0).toLoadRect (harg9.unread cn) = cntA cn := by
    rw [View.readAt_eq_ld, harg9.read_unread]; rfl
  have d5 : View.readAt (Elt F) arg9.view (Rect.unit (s := S2x1024) ![0, 0] ![1, 1024] inb_S2x1024_S1x1024_0_0).toLoadRect (harg9.unread cn) = cntA cn := e5
  have e6 : View.readAt (Elt F) arg9.view (Rect.unit (s := S2x1024) ![1, 0] S1x1024.size inb_S2x1024_S1x1024_1_0).toLoadRect (harg9.unread cn) = cntB cn := by
    rw [View.readAt_eq_ld, harg9.read_unread]; rfl
  have d6 : View.readAt (Elt F) arg9.view (Rect.unit (s := S2x1024) ![1, 0] ![1, 1024] inb_S2x1024_S1x1024_1_0).toLoadRect (harg9.unread cn) = cntB cn := e6
  have H := (runC c i arg1 harg1 arg2 harg2 arg3 harg3 arg4 harg4 arg5 harg5 arg6 harg6 arg7 harg7 arg8 harg8 arg9 harg9 hc0 hc1 x0 x1 x2 x3 y6 cn).2
  unfold runC at H
  dsimp only at H
  unfold runC.sl.v111 runC.sl.v129 runC.sl.HS0_2 runC.sl.v101 runC.sl.r_1 runC.sl.r_2 runC.sl.r_3 runC.sl.r runC.sl.v8 at H
  simp only [← colV_eq, e0, d0, e1, d1, e2, d2, e3, d3, e4, d4, e5, d5, e6, d6, lenB_eq, partB_eq, candA_eq] at H
  rw [covA, covB] at H
  refine step_of_body x0 x1 x2 x3 c i arg1 harg1 arg2 harg2 arg3 harg3 arg4 harg4 arg5 harg5 arg6 harg6 arg7 harg7 arg8 harg8 arg9 harg9 y6 _ cn _ _ _ _ _ H ?_ ?_ ?_ ?_ ?_
  · intro f; exact View.read_writes_eq_canon _ _ _ (cover3 _ _)
  · intro f; exact View.read_writes_eq_canon _ _ _ (cover3 _ _)
  · intro f hf
    exact read_writes_overlay _ _ _ _ _ (read_writes_overlay _ _ _ _ _ hf)
  · intro _ f; exact View.read_writes_eq_canon _ _ _ (cover1 _)
  · intro f; exact View.read_writes_eq_canon _ _ _ (cover2 _ _)

set_option maxHeartbeats 400000 in
/-- The first point: the counts start from zero. -/
theorem stepA (c : Dev nD) (i : grid0.Coords) (arg1 : Memref sig .tc .vmem S256x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x1024x128 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S16x128 .i32) (harg7 : arg7.IsWhole) (arg8 : Memref sig .tc .vmem S1x1 .f32) (harg8 : arg8.IsWhole) (arg9 : Memref sig .tc .vmem S2x1024 .f32) (harg9 : arg9.IsWhole)
    (hc0 : isFirst i) (hc1 : ¬isLast i) (y6 : Vec F S16x128 .i32) :
    StepSpec c i arg1 harg1 arg2 harg2 arg3 harg3 arg4 harg4 arg5 harg5 arg6 harg6 arg7 harg7 arg8 harg8 arg9 harg9 x0 x1 x2 x3 y6 iprop(∃ d, owns (c : Thread nD τ) arg9 fullShare d) (k0_pay3 (F := F)) := by
  have e0 : View.readAt (Elt F) arg1.view (Rect.unit (s := S256x768) ![0, 0] S256x768.size inb_S256x768_S256x768_0_0).toLoadRect (harg1.unread x0) = x0 := by
    rw [View.readAt_eq_ld, harg1.read_unread]; funext y; exact congrArg x0 (funext fun a => Fin.ext (by fin_cases a <;> exact (Nat.zero_add _).trans (Nat.one_mul _)))
  have d0 : View.readAt (Elt F) arg1.view (Rect.unit (s := S256x768) ![0, 0] ![256, 768] inb_S256x768_S256x768_0_0).toLoadRect (harg1.unread x0) = x0 := e0
  have e1 : View.readAt (Elt F) arg2.view (Rect.unit (s := S768x256) ![0, 0] S768x256.size inb_S768x256_S768x256_0_0).toLoadRect (harg2.unread x1) = x1 := by
    rw [View.readAt_eq_ld, harg2.read_unread]; funext y; exact congrArg x1 (funext fun a => Fin.ext (by fin_cases a <;> exact (Nat.zero_add _).trans (Nat.one_mul _)))
  have d1 : View.readAt (Elt F) arg2.view (Rect.unit (s := S768x256) ![0, 0] ![768, 256] inb_S768x256_S768x256_0_0).toLoadRect (harg2.unread x1) = x1 := e1
  have e2 : View.readAt (Elt F) arg3.view (Rect.unit (s := S256) ![0] S256.size inb_S256_S256_0).toLoadRect (harg3.unread x2) = x2 := by
    rw [View.readAt_eq_ld, harg3.read_unread]; funext y; exact congrArg x2 (funext fun a => Fin.ext (by fin_cases a <;> exact (Nat.zero_add _).trans (Nat.one_mul _)))
  have d2 : View.readAt (Elt F) arg3.view (Rect.unit (s := S256) ![0] ![256] inb_S256_S256_0).toLoadRect (harg3.unread x2) = x2 := e2
  have e3 : View.readAt (Elt F) arg4.view (Rect.unit (s := S2x1024x128) ![0, 0, 0] S1x1024x128.size inb_S2x1024x128_S1x1024x128_0_0_0).toLoadRect (harg4.unread x3) = cvA x3 := by
    rw [View.readAt_eq_ld, harg4.read_unread]; rfl
  have d3 : View.readAt (Elt F) arg4.view (Rect.unit (s := S2x1024x128) ![0, 0, 0] ![1, 1024, 128] inb_S2x1024x128_S1x1024x128_0_0_0).toLoadRect (harg4.unread x3) = cvA x3 := e3
  have e4 : View.readAt (Elt F) arg4.view (Rect.unit (s := S2x1024x128) ![1, 0, 0] S1x1024x128.size inb_S2x1024x128_S1x1024x128_1_0_0).toLoadRect (harg4.unread x3) = cvB x3 := by
    rw [View.readAt_eq_ld, harg4.read_unread]; rfl
  have d4 : View.readAt (Elt F) arg4.view (Rect.unit (s := S2x1024x128) ![1, 0, 0] ![1, 1024, 128] inb_S2x1024x128_S1x1024x128_1_0_0).toLoadRect (harg4.unread x3) = cvB x3 := e4
  have H := (runA c i arg1 harg1 arg2 harg2 arg3 harg3 arg4 harg4 arg5 harg5 arg6 harg6 arg7 harg7 arg8 harg8 arg9 harg9 hc0 hc1 x0 x1 x2 x3 y6).2
  unfold runA at H
  dsimp only at H
  unfold runA.sl.v101 runA.sl.HS0_2 runA.sl.v53 runA.sl.HS0_1 runA.sl.r_1 runA.sl.r_2 runA.sl.r_3 runA.sl.r runA.sl.v8 at H
  simp only [← colV_eq, e0, d0, e1, d1, e2, d2, e3, d3, e4, d4, lenB_eq, partB_eq, candA_eq] at H
  have g0 : arg9.view.readCov [⟨Rect.unit (s := S2x1024) ![0, 0] ![2, 1024] inb_S2x1024_S2x1024_0_0, k0_pay3 (F := F)⟩]
      (Rect.unit (s := S2x1024) ![0, 0] ![1, 1024] inb_S2x1024_S1x1024_0_0).toLoadRect = cntA (k0_pay3 (F := F)) := by
    rw [View.readCov_eq_canon_ld _ _ _ (cover_whole _ _), canon_whole]; rfl
  have g1 : ∀ p, arg9.view.readCov [⟨Rect.unit (s := S2x1024) ![0, 0] ![1, 1024] inb_S2x1024_S1x1024_0_0, p⟩, ⟨Rect.unit (s := S2x1024) ![0, 0] ![2, 1024] inb_S2x1024_S2x1024_0_0, k0_pay3 (F := F)⟩]
      (Rect.unit (s := S2x1024) ![1, 0] ![1, 1024] inb_S2x1024_S1x1024_1_0).toLoadRect = cntB (k0_pay3 (F := F)) := by
    intro p
    rw [View.readCov_eq_canon_ld _ _ _ (fun y => ?_)]
    · funext x
      refine (View.canon_cons_of_not_mem _ _ ?_).trans (congrFun (canon_whole _ _) _)
      refine Rect.not_mem_set_of_axis _ _ 0 0 1 rfl rfl rfl (.inr ?_)
      show 0 + 1 ≤ 1 + 1 * (x 0).val
      omega
    · obtain ⟨pc, hm, hy⟩ := cover_whole (k0_pay3 (F := F)) [] y
      exact ⟨pc, List.mem_cons_of_mem _ hm, hy⟩
  rw [g0, g1] at H
  refine step_of_body x0 x1 x2 x3 c i arg1 harg1 arg2 harg2 arg3 harg3 arg4 harg4 arg5 harg5 arg6 harg6 arg7 harg7 arg8 harg8 arg9 harg9 y6 _ (k0_pay3 (F := F)) _ _ _ _ _ H ?_ ?_ ?_ ?_ ?_
  · intro f; exact View.read_writes_eq_canon _ _ _ (cover3 _ _)
  · intro f; exact View.read_writes_eq_canon _ _ _ (cover3 _ _)
  · intro f hf
    exact read_writes_overlay _ _ _ _ _ (read_writes_overlay _ _ _ _ _ hf)
  · intro hl; exact absurd hl hc1
  · intro f
    refine (View.read_writes_eq_canon _ _ _ fun y => ?_).trans (canon_two _ _ _ (cover2 _ _))
    obtain ⟨pc, hm, hy⟩ := cover2 (k0_pay21 colV (lenB x3) (partB x0 x1 x2 x3) (cntB (k0_pay3 (F := F)))) (k0_pay11 colV (candA x0 x1 x2 x3) (cntA (k0_pay3 (F := F)))) y
    rcases List.mem_cons.mp hm with rfl | hm
    · exact ⟨_, List.mem_cons_self, hy⟩
    · rcases List.mem_cons.mp hm with rfl | hm
      · exact ⟨_, List.mem_cons_of_mem _ List.mem_cons_self, hy⟩
      · exact absurd hm List.not_mem_nil

end Cert.Proof.Vq

end
-- ==== Proof.Vq.Region.lean ====
/-
  The TensorCore call as one region of @main: its proof data as a RELATION between what the body finds in each
  window's staging buffer and what it leaves there (the index window keeps at every point the rows the earlier
  points wrote, so it is related to what was found and not named), the invariant that carries the running counts,
  and the body's obligation at every grid point from the three step theorems.
-/
module

public import proofs.«01_k».proof.Proof.Vq.TcValues
public import Idealize.ShloMosaic.Lib.Pipeline.Regions
public import Idealize.ShloMosaic.Lib.Pipeline.RegionsLoop
public import Idealize.ShloMosaic.Lib.Pipeline.ArrRel

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (RDat Cfg Window cellOf)

-- the contents of the unscoped buffers when the region is entered
variable (V : (c : Dev nD) → (b : Ref sig .tc) → Buf (Elt F) ((c : Thread nD τ).loc b))

/-- Rows of the hidden states that grid point `t` works on. -/
def xb0 (c : Dev nD) (t : Fin cfg0.N) : Vec F S256x768 .f32 := ((cfg0.win 0).blk t).view.read (Elt F) (V c (Pipeline.arrRef spec0 0))
/-- The projection's weights, its bias and the two code books, the same at every point. -/
def xb1 (c : Dev nD) (t : Fin cfg0.N) : Vec F S768x256 .f32 := ((cfg0.win 1).blk t).view.read (Elt F) (V c (Pipeline.arrRef spec0 1))
def xb2 (c : Dev nD) (t : Fin cfg0.N) : Vec F S256 .f32 := ((cfg0.win 2).blk t).view.read (Elt F) (V c (Pipeline.arrRef spec0 2))
def xb3 (c : Dev nD) (t : Fin cfg0.N) : Vec F S2x1024x128 .f32 := ((cfg0.win 3).blk t).view.read (Elt F) (V c (Pipeline.arrRef spec0 3))

/-- The counts after the first `n` points: zero, then each point's counts added. -/
def cntAt (c : Dev nD) : ℕ → Vec F S2x1024 .f32
  | 0 => k0_pay3
  | n + 1 => if h : n < cfg0.N then cntW (xb0 V c ⟨n, h⟩) (xb1 V c ⟨n, h⟩) (xb2 V c ⟨n, h⟩) (xb3 V c ⟨n, h⟩) (cntAt c n) else cntAt c n

theorem cntAt_succ (c : Dev nD) (t : Fin cfg0.N) :
    cntAt V c (t.val + 1) = cntW (xb0 V c t) (xb1 V c t) (xb2 V c t) (xb3 V c t) (cntAt V c t.val) := by
  rw [cntAt, dif_pos t.isLt]

/-- The invariant after `n` points: the scratch holds the counts of these points (anything before the first). -/
def phiN (c : Dev nD) : ℕ → sProp 𝕄
  | 0 => iprop(∃ d, owns (c : Thread nD τ) cntM fullShare d)
  | n + 1 => owns (c : Thread nD τ) cntM fullShare (cntAt V c (n + 1))

/-- The proof data: inputs left at their blocks; distances and one-hot rows at the point's values; the index
    window overlaid by the point's rows; the perplexity stored at the last point. The core owes throughout what it
    owes the SparseCore call that follows, and its own waits are recorded at no call's index. -/
def rdat (c : Dev nD) : RDat τ (Elt F) (HIx 1) ℕ UU ℕ cfg0 c where
  A w := V c (Pipeline.arrRef spec0 w)
  after w t := match w with
    | ⟨0, _⟩ => fun _ X => X = xb0 V c t
    | ⟨1, _⟩ => fun _ X => X = xb1 V c t
    | ⟨2, _⟩ => fun _ X => X = xb2 V c t
    | ⟨3, _⟩ => fun _ X => X = xb3 V c t
    | ⟨4, _⟩ => fun _ X => X = distW (xb0 V c t) (xb1 V c t) (xb2 V c t) (xb3 V c t)
    | ⟨5, _⟩ => fun _ X => X = encW (xb0 V c t) (xb1 V c t) (xb2 V c t) (xb3 V c t)
    | ⟨6, _⟩ => fun Y X => X = idxW (xb0 V c t) (xb1 V c t) (xb2 V c t) (xb3 V c t) (grid0.coords t) Y
    | ⟨7, _⟩ => fun _ X => t.val = 3 → X = pplW (cntAt V c (t.val + 1))
  Φ t := phiN V c t.val
  q _ := fullShare
  owed _ := (K F).Otc c 0
  recorded _ := {p | p.2 = none}

theorem finds0 (c : Dev nD) (t : Fin cfg0.N) (X) (h : (rdat V c).Finds 0 t X) : X = xb0 V c t := by
  rw [(rdat V c).finds_of_fetch (fetch0_0 t)] at h
  obtain ⟨d, rfl⟩ := h
  rfl

theorem finds1 (c : Dev nD) (t : Fin cfg0.N) (X) (h : (rdat V c).Finds 1 t X) : X = xb1 V c t := by
  by_cases hz : t.val % 4 = 0
  · rw [(rdat V c).finds_of_fetch ((fetch0_1 t).mpr hz)] at h
    obtain ⟨d, rfl⟩ := h
    rfl
  · rw [(rdat V c).finds_of_pos (Bool.eq_false_iff.mpr fun e => hz ((fetch0_1 t).mp e)) (by omega)] at h
    rcases h with h | ⟨Y, -, h⟩
    · exact absurd h (by decide +revert)
    · refine Eq.trans (show X = xb1 V c _ from h) ?_
      exact (rdat V c).fetched_congr 1 (t := ⟨t.val - 1, Nat.lt_of_le_of_lt (Nat.sub_le _ _) t.isLt⟩) (t' := t) rfl rfl X

theorem finds2 (c : Dev nD) (t : Fin cfg0.N) (X) (h : (rdat V c).Finds 2 t X) : X = xb2 V c t := by
  by_cases hz : t.val % 4 = 0
  · rw [(rdat V c).finds_of_fetch ((fetch0_2 t).mpr hz)] at h
    obtain ⟨d, rfl⟩ := h
    rfl
  · rw [(rdat V c).finds_of_pos (Bool.eq_false_iff.mpr fun e => hz ((fetch0_2 t).mp e)) (by omega)] at h
    rcases h with h | ⟨Y, -, h⟩
    · exact absurd h (by decide +revert)
    · refine Eq.trans (show X = xb2 V c _ from h) ?_
      exact (rdat V c).fetched_congr 2 (t := ⟨t.val - 1, Nat.lt_of_le_of_lt (Nat.sub_le _ _) t.isLt⟩) (t' := t) rfl rfl X

theorem finds3 (c : Dev nD) (t : Fin cfg0.N) (X) (h : (rdat V c).Finds 3 t X) : X = xb3 V c t := by
  by_cases hz : t.val % 4 = 0
  · rw [(rdat V c).finds_of_fetch ((fetch0_3 t).mpr hz)] at h
    obtain ⟨d, rfl⟩ := h
    rfl
  · rw [(rdat V c).finds_of_pos (Bool.eq_false_iff.mpr fun e => hz ((fetch0_3 t).mp e)) (by omega)] at h
    rcases h with h | ⟨Y, -, h⟩
    · exact absurd h (by decide +revert)
    · refine Eq.trans (show X = xb3 V c _ from h) ?_
      exact (rdat V c).fetched_congr 3 (t := ⟨t.val - 1, Nat.lt_of_le_of_lt (Nat.sub_le _ _) t.isLt⟩) (t' := t) rfl rfl X

/-- The body table's row at point `t`'s buffers is the kernel's body there. -/
theorem defs₀_row (t : Fin cfg0.N) :
    defs₀ (F := F) .tc cfg0.body (cfg0.bodyArgs t (cfg0.slots t)) = bodyAt0 t := by
  rfl

/-- A step from contents `cnt0` of the scratch, restated with what the region's invariant says of it. -/
theorem step_at (c : Dev nD) (t : Fin cfg0.N) (y6 : Vec F S16x128 .i32) :
    StepSpec c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6)) (st0_7 t) (hstage0_7 ((cfg0.slots t 7).cast nbuf0_7))
      cntM (Memref.isWhole_whole _) (xb0 V c t) (xb1 V c t) (xb2 V c t) (xb3 V c t) y6 (phiN V c t.val) (cntAt V c t.val) := by
  by_cases h0 : t.val = 0
  · have e1 : phiN V c t.val = iprop(∃ d, owns (c : Thread nD τ) cntM fullShare d) := by rw [h0]; rfl
    have e2 : cntAt V c t.val = k0_pay3 := by rw [h0]; rfl
    rw [e1, e2]
    exact stepA _ _ _ _ c _ _ _ _ _ _ _ _ _ _ _ _ _ _ _ _ _ _ _ ((isFirst_iff t).mpr h0) (fun h => by have := (isLast_iff t).mp h; omega) y6
  · have e1 : phiN V c t.val = owns (c : Thread nD τ) cntM fullShare (cntAt V c t.val) := by
      obtain ⟨n, hn⟩ := Nat.exists_eq_succ_of_ne_zero h0
      rw [hn]; rfl
    rw [e1]
    by_cases h1 : t.val = 3
    · exact stepC _ _ _ _ c _ _ _ _ _ _ _ _ _ _ _ _ _ _ _ _ _ _ _ (fun h => h0 ((isFirst_iff t).mp h)) ((isLast_iff t).mpr h1) y6 _
    · exact stepB _ _ _ _ c _ _ _ _ _ _ _ _ _ _ _ _ _ _ _ _ _ _ _ (fun h => h0 ((isFirst_iff t).mp h)) (fun h => h1 ((isLast_iff t).mp h)) y6 _

set_option maxHeartbeats 4000000 in
/-- The body's obligation at every point. -/
theorem body_obligation (c : Dev nD) : (rdat V c).BodyObligation (defs₀ (F := F)) Variants.none none Set.univ := fun t Y hY => by
  have h0 := finds0 V c t _ (hY 0)
  have h1 := finds1 V c t _ (hY 1)
  have h2 := finds2 V c t _ (hY 2)
  have h3 := finds3 V c t _ (hY 3)
  rw [bigSep_W0, bigSep_W0, defs₀_row, h0, h1, h2, h3]
  rw [show (rdat V c).Φ t.castSucc = phiN V c t.val from rfl, show (rdat V c).Φ t.succ = owns (c : Thread nD τ) cntM fullShare (cntAt V c (t.val + 1)) from rfl,
    show (rdat V c).owesAt none t.succ = (rdat V c).owesAt none t.castSucc from rfl]
  iintro ⟨HΦ, Ho, H0, H1, H2, H3, H4, H5, H6, H7⟩
  iapply (step_at V c t (Y 6) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexists _; iexact H7
  isplitl [HΦ]; · iexact HΦ
  iintro ⟨H0, H1, H2, H3, H4, H5, H6, ⟨%d7, %hd7, H7⟩, HS⟩
  rw [cntAt_succ]
  isplitl [HS]; · iexact HS
  isplitl [Ho]; · iexact Ho
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  iexists d7; isplitr; swap; (· iexact H7)
  ipureintro
  show t.val = 3 → d7 = pplW (cntAt V c (t.val + 1))
  intro h; rw [cntAt_succ]; exact hd7 ((isLast_iff t).mpr h)

end Cert.Proof.Vq

end
-- ==== Proof.Vq.TcSeg.lean ====
/-
  The TensorCore call's region between two states of the device's memory: entered with every unscoped buffer at a
  valuation, left with the four output arrays at contents the region's relation allows and everything else as it was.
-/
module

public import proofs.«01_k».proof.Proof.Vq.Region

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Pipeline (RDat Cfg Window cellOf)

/-- No table is prefetched. -/
abbrev adm : (p : Fin 1) → (pcfgs (F := F) p).Adm := fun p => (cfgs p).toPCfg_adm

variable (W : Dev nD → Valuation τ sig (Elt F))

/-- The proof data of the one pipeline, from a valuation of the device's buffers. -/
abbrev rdats (p : Fin 1) (c : Dev nD) : RDat τ (Elt F) (HIx 1) ℕ UU ℕ (Pipeline.pin (pcfgs (F := F)) adm p) c := rdat (fun c b => W c b) c

/-- What the region may leave in its four output arrays. -/
def Leaves4 (c : Dev nD) (G4 : Buf (Elt F) ((c : Thread nD τ).loc main_v2_0)) (G5 : Buf (Elt F) ((c : Thread nD τ).loc main_v2_1))
    (G6 : Buf (Elt F) ((c : Thread nD τ).loc main_v2_2)) (G7 : Buf (Elt F) ((c : Thread nD τ).loc main_v2_3)) : Prop :=
  (rdat (fun c b => W c b) c).ArrAt 4 cfg0.N G4 ∧ (rdat (fun c b => W c b) c).ArrAt 5 cfg0.N G5
    ∧ (rdat (fun c b => W c b) c).ArrAt 6 cfg0.N G6 ∧ (rdat (fun c b => W c b) c).ArrAt 7 cfg0.N G7

/-- The valuation with the four output arrays at given contents. -/
def upd (U : Valuation τ sig (Elt F)) (c : Dev nD) (G4 : Buf (Elt F) ((c : Thread nD τ).loc main_v2_0)) (G5 : Buf (Elt F) ((c : Thread nD τ).loc main_v2_1))
    (G6 : Buf (Elt F) ((c : Thread nD τ).loc main_v2_2)) (G7 : Buf (Elt F) ((c : Thread nD τ).loc main_v2_3)) : Valuation τ sig (Elt F) :=
  Function.update (Function.update (Function.update (Function.update U (main_v2_0 : DevRef τ sig) G4) (main_v2_1 : DevRef τ sig) G5)
    (main_v2_2 : DevRef τ sig) G6) (main_v2_3 : DevRef τ sig) G7

section Upd
variable (U : Valuation τ sig (Elt F)) (c : Dev nD) (G4 : Buf (Elt F) ((c : Thread nD τ).loc main_v2_0)) (G5 : Buf (Elt F) ((c : Thread nD τ).loc main_v2_1))
    (G6 : Buf (Elt F) ((c : Thread nD τ).loc main_v2_2)) (G7 : Buf (Elt F) ((c : Thread nD τ).loc main_v2_3))

theorem upd_4 : upd U c G4 G5 G6 G7 (main_v2_0 : DevRef τ sig) = G4 := by
  unfold upd
  rw [Function.update_of_ne (by decide), Function.update_of_ne (by decide), Function.update_of_ne (by decide), Function.update_self]
theorem upd_5 : upd U c G4 G5 G6 G7 (main_v2_1 : DevRef τ sig) = G5 := by
  unfold upd
  rw [Function.update_of_ne (by decide), Function.update_of_ne (by decide), Function.update_self]
theorem upd_6 : upd U c G4 G5 G6 G7 (main_v2_2 : DevRef τ sig) = G6 := by
  unfold upd
  rw [Function.update_of_ne (by decide), Function.update_self]
theorem upd_7 : upd U c G4 G5 G6 G7 (main_v2_3 : DevRef τ sig) = G7 := by
  unfold upd
  rw [Function.update_self]
theorem upd_of_ne (b : DevRef τ sig) (h0 : b ≠ (main_v2_0 : DevRef τ sig)) (h1 : b ≠ (main_v2_1 : DevRef τ sig)) (h2 : b ≠ (main_v2_2 : DevRef τ sig))
    (h3 : b ≠ (main_v2_3 : DevRef τ sig)) : upd U c G4 G5 G6 G7 b = U b := by
  unfold upd
  rw [Function.update_of_ne h3, Function.update_of_ne h2, Function.update_of_ne h1, Function.update_of_ne h0]
end Upd

/-- The TensorCore owes nothing at a kernel's own index. -/
theorem Otc_none (c : Dev nD) (g : GSem nD τ sig) : (K F).Otc (N := 1) c 0 g none = 0 := by
  by_contra h
  have := SparseCore.Cfg.lev_of_Otc_pos (K := K F) (Nat.pos_of_ne_zero h)
  exact absurd (show 8 * _ + 1 ≤ 0 from this) (by omega)

/-- The state the core carries across the region beside the buffers: what it owes, with its recorded waits. -/
abbrev tcOwes (c : Dev nD) : sProp 𝕄 :=
  iprop(∃ Wt, ⌜∀ p ∈ Wt, p.2 = none⌝ ∗ owes (c : Thread nD τ) ((K F).Otc c 0) Wt)

theorem share_full (c : Dev nD) (w : Fin cfg0.W) : (rdat (F := F) (fun c b => W c b) c).share w = fullShare := by
  unfold RDat.share; split <;> rfl

set_option maxHeartbeats 4000000 in
/-- The exit's memory part: arrays at contents the relation allows and the untouched rest make the device's unscoped
    buffers at an updated valuation. -/
theorem exit_bufs (c : Dev nD) :
    iprop((rdats W 0 c).arraysAt (Pipeline.pin (pcfgs (F := F)) adm 0).N ∗ Pipeline.unscopedRest (Ix := HIx 1) (Name := ℕ) (U := UU) (Lvl := ℕ) spec0 c (fun b => W c b))
      ⊢ (iprop(∃ G4 G5 G6 G7, ⌜Leaves4 W c G4 G5 G6 G7⌝ ∗ unscopedBufs c (fun b => upd (W c) c G4 G5 G6 G7 b)) : sProp 𝕄) := by
  rw [Pipeline.RDat.arraysAt_eq (pcfgs (F := F)) adm (rdats W) 0 c launch0.arr_whole (share_full W c)]
  refine (show _ ⊢ _ from sep_mono (Entails.of_eq (bigSep_W0 _)) .rfl).trans ?_
  iintro ⟨⟨⟨%A0, %h0, H0⟩, ⟨%A1, %h1, H1⟩, ⟨%A2, %h2, H2⟩, ⟨%A3, %h3, H3⟩, ⟨%G4, %h4, H4⟩, ⟨%G5, %h5, H5⟩, ⟨%G6, %h6, H6⟩, ⟨%G7, %h7, H7⟩⟩, Hr⟩
  iexists G4; iexists G5; iexists G6; iexists G7
  isplitr; · ipureintro; exact ⟨h4, h5, h6, h7⟩
  rw [Pipeline.unscopedBufs_split cfgs 0 launch0.win.arr_unscoped launch0.win.arr_inj c]
  have e0 : A0 = upd (W c) c G4 G5 G6 G7 (main_v0 : DevRef τ sig) :=
    ((congrFun ((rdat (fun c b => W c b) c).ArrAt_in 0 rfl _) A0).mp h0).trans (upd_of_ne (W c) c G4 G5 G6 G7 _ (by decide) (by decide) (by decide) (by decide)).symm
  have e1 : A1 = upd (W c) c G4 G5 G6 G7 (main_arg1 : DevRef τ sig) :=
    ((congrFun ((rdat (fun c b => W c b) c).ArrAt_in 1 rfl _) A1).mp h1).trans (upd_of_ne (W c) c G4 G5 G6 G7 _ (by decide) (by decide) (by decide) (by decide)).symm
  have e2 : A2 = upd (W c) c G4 G5 G6 G7 (main_arg2 : DevRef τ sig) :=
    ((congrFun ((rdat (fun c b => W c b) c).ArrAt_in 2 rfl _) A2).mp h2).trans (upd_of_ne (W c) c G4 G5 G6 G7 _ (by decide) (by decide) (by decide) (by decide)).symm
  have e3 : A3 = upd (W c) c G4 G5 G6 G7 (main_arg3 : DevRef τ sig) :=
    ((congrFun ((rdat (fun c b => W c b) c).ArrAt_in 3 rfl _) A3).mp h3).trans (upd_of_ne (W c) c G4 G5 G6 G7 _ (by decide) (by decide) (by decide) (by decide)).symm
  have e4 : G4 = upd (W c) c G4 G5 G6 G7 (main_v2_0 : DevRef τ sig) := (upd_4 (W c) c G4 G5 G6 G7).symm
  have e5 : G5 = upd (W c) c G4 G5 G6 G7 (main_v2_1 : DevRef τ sig) := (upd_5 (W c) c G4 G5 G6 G7).symm
  have e6 : G6 = upd (W c) c G4 G5 G6 G7 (main_v2_2 : DevRef τ sig) := (upd_6 (W c) c G4 G5 G6 G7).symm
  have e7 : G7 = upd (W c) c G4 G5 G6 G7 (main_v2_3 : DevRef τ sig) := (upd_7 (W c) c G4 G5 G6 G7).symm
  have hrest : (Pipeline.unscopedRest (Ix := HIx 1) (Name := ℕ) (U := UU) (Lvl := ℕ) spec0 c (fun b => W c b) : sProp 𝕄)
    = Pipeline.unscopedRest spec0 c (fun b => upd (W c) c G4 G5 G6 G7 b) := by
    rw [unscopedRest0_eq, unscopedRest0_eq]
    simp only [upd_of_ne (W c) c G4 G5 G6 G7 (main_arg0 : DevRef τ sig) (by decide) (by decide) (by decide) (by decide),
      upd_of_ne (W c) c G4 G5 G6 G7 (main_v1 : DevRef τ sig) (by decide) (by decide) (by decide) (by decide),
      upd_of_ne (W c) c G4 G5 G6 G7 (main_v3 : DevRef τ sig) (by decide) (by decide) (by decide) (by decide),
      upd_of_ne (W c) c G4 G5 G6 G7 (main_v4 : DevRef τ sig) (by decide) (by decide) (by decide) (by decide),
      upd_of_ne (W c) c G4 G5 G6 G7 (main_v5 : DevRef τ sig) (by decide) (by decide) (by decide) (by decide),
      upd_of_ne (W c) c G4 G5 G6 G7 (main_v6 : DevRef τ sig) (by decide) (by decide) (by decide) (by decide),
      upd_of_ne (W c) c G4 G5 G6 G7 (main_v7 : DevRef τ sig) (by decide) (by decide) (by decide) (by decide)]
  isplitr [Hr]
  · iapply (Entails.of_eq (bigSep_W0 _).symm)
    isplitl [H0]; · iapply (Entails.of_eq (congrArg (fun f : Buf (Elt F) ((c : Thread nD τ).loc main_v0) => (((c : Thread nD τ).loc main_v0) ↦{fullShare} f : sProp 𝕄)) e0)); iexact H0
    isplitl [H1]; · iapply (Entails.of_eq (congrArg (fun f : Buf (Elt F) ((c : Thread nD τ).loc main_arg1) => (((c : Thread nD τ).loc main_arg1) ↦{fullShare} f : sProp 𝕄)) e1)); iexact H1
    isplitl [H2]; · iapply (Entails.of_eq (congrArg (fun f : Buf (Elt F) ((c : Thread nD τ).loc main_arg2) => (((c : Thread nD τ).loc main_arg2) ↦{fullShare} f : sProp 𝕄)) e2)); iexact H2
    isplitl [H3]; · iapply (Entails.of_eq (congrArg (fun f : Buf (Elt F) ((c : Thread nD τ).loc main_arg3) => (((c : Thread nD τ).loc main_arg3) ↦{fullShare} f : sProp 𝕄)) e3)); iexact H3
    isplitl [H4]; · iapply (Entails.of_eq (congrArg (fun f : Buf (Elt F) ((c : Thread nD τ).loc main_v2_0) => (((c : Thread nD τ).loc main_v2_0) ↦{fullShare} f : sProp 𝕄)) e4)); iexact H4
    isplitl [H5]; · iapply (Entails.of_eq (congrArg (fun f : Buf (Elt F) ((c : Thread nD τ).loc main_v2_1) => (((c : Thread nD τ).loc main_v2_1) ↦{fullShare} f : sProp 𝕄)) e5)); iexact H5
    isplitl [H6]; · iapply (Entails.of_eq (congrArg (fun f : Buf (Elt F) ((c : Thread nD τ).loc main_v2_2) => (((c : Thread nD τ).loc main_v2_2) ↦{fullShare} f : sProp 𝕄)) e6)); iexact H6
    iapply (Entails.of_eq (congrArg (fun f : Buf (Elt F) ((c : Thread nD τ).loc main_v2_3) => (((c : Thread nD τ).loc main_v2_3) ↦{fullShare} f : sProp 𝕄)) e7)); iexact H7
  iapply (Entails.of_eq hrest); iexact Hr

/-- Every wait on a staging cell is allowed: the core's debts sit at the calls' levels, above the waits. -/
theorem waits (c : Dev nD) :
    (levAts (K F).L (K F).lev : sProp 𝕄) ⊢ Pipeline.RDat.cellsWaits (Pipeline.pin (pcfgs (F := F)) adm) (rdats W) none 0 c :=
  Pipeline.RDat.cellsWaits_intro _ _ _ _ _ fun w s t => (K F).mayWait_none _ (Otc_none c)

set_option backward.isDefEq.respectTransparency.types false in
/-- THE REGION, over the thread state "every unscoped buffer at the valuation, and what the core owes". -/
def reg : Pipeline.RDat.RegionSeg (pcfgs (F := F)) adm (rdats W) none defs₀ Variants.none (K F).L (K F).lev 0 where
  win := launch0.win.to₀
  block_pos := launch0.block_pos
  stage_whole := launch0.stage_whole
  K := PEmpty
  osem k := k.elim
  ho := Pipeline.OwnSemFacts.none _
  hbody c := body_obligation (fun c b => W c b) c
  hwaits := waits W
  pre c := iprop(unscopedBufs c (fun b => W c b) ∗ tcOwes c)
  post c := iprop((∃ G4 G5 G6 G7, ⌜Leaves4 W c G4 G5 G6 G7⌝ ∗ unscopedBufs c (fun b => upd (W c) c G4 G5 G6 G7 b)) ∗ tcOwes c)
  X _ := BI.emp
  Y _ := BI.emp
  Z c := Pipeline.unscopedRest (Ix := HIx 1) (Name := ℕ) (U := UU) (Lvl := ℕ) spec0 c (fun b => W c b)
  hentry c := by
    rw [Pipeline.ownSems0_none]
    have hsplit := Pipeline.RDat.arrays_of_unscopedBufs (p := 0) (pcfgs (F := F)) adm (rdats W) launch0.win launch0.arr_whole c
      (share_full W c) (fun b => W c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%Wt, %hW, HO⟩; iexists Wt; isplitr; · ipureintro; exact fun p hp => Or.inl (hW p hp)
      iexact HO
    isplitr; · iempintro
    iexact Hrest
  hin c := by
    rw [show (rdats W 0 c).Φ 0 = iprop(∃ d, owns (c : Thread nD τ) cntM fullShare d) from rfl]
    iintro ⟨-, -, Hr⟩
    ihave Hr' := (Entails.of_eq (scopedRest0_eq (Ix := HIx 1) (Val := Elt F) (Name := ℕ) (U := UU) (Lvl := ℕ) c)) $$ Hr
    icases Hr' with ⟨%f, Hr⟩
    iexists f
    iapply (Entails.of_eq (owns_whole_eq ..).symm)
    iexists f
    isplitr; · ipureintro; rfl
    iexact Hr
  hout c := by
    rw [Pipeline.ownSems0_none, show (rdats W 0 c).Φ (Fin.last _) = owns (c : Thread nD τ) cntM fullShare (cntAt (fun c b => W c b) c 4) from rfl]
    iintro Hr
    isplitr; · iempintro
    isplitr; · iempintro
    iapply (Entails.of_eq (scopedRest0_eq (Ix := HIx 1) (Val := Elt F) (Name := ℕ) (U := UU) (Lvl := ℕ) c).symm)
    ihave Hr' := (Entails.of_eq (owns_whole_eq ..)) $$ Hr
    icases Hr' with ⟨%f, -, Hr⟩
    iexists f
    iexact Hr
  hexit c := by
    iintro ⟨Ha, HO, -, Hrest⟩
    imodintro
    isplitl [Ha Hrest]
    · iapply (exit_bufs W c); isplitl [Ha] <;> iassumption
    unfold Pipeline.RDat.owesAt Pipeline.owesWithin
    icases HO with ⟨%Wt, %hW, HO⟩; iexists Wt; isplitr
    · ipureintro; intro p hp
      rcases hW hp with h | ⟨w, s, h⟩
      · exact h
      · exact congrArg Prod.snd h
    iexact HO

end Cert.Proof.Vq

end
-- ==== Proof.Vq.TcFinal.lean ====
/-
  What the TensorCore call leaves in its four result arrays, in closed form: from what each grid point leaves in the
  windows' staging buffers and where the points' blocks lie.
-/
module

public import proofs.«01_k».proof.Proof.Vq.TcSeg
public import Idealize.ShloMosaic.Lib.ValueIdxCore
public import Idealize.ShloMosaic.Lib.Pipeline.ValueKit

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

variable [∀ e, Nonempty (Elt F e)]
variable (V : (c : Dev nD) → (b : Ref sig .tc) → Buf (Elt F) ((c : Thread nD τ).loc b))

/-- The grid point that works on row `r` of the hidden states. -/
def ptOf (r : Fin 1024) : Fin cfg0.N := ⟨r.val / 256, by have : cfg0.N = 4 := N_0; omega⟩

/-- The distances' array: row `r` of group `g` is row `r mod 256` of the block that point `r / 256` computes. -/
def distG (c : Dev nD) : Vec F S2x1024x1024 .f32 := fun j =>
  distW (xb0 V c (ptOf (j 1))) (xb1 V c (ptOf (j 1))) (xb2 V c (ptOf (j 1))) (xb3 V c (ptOf (j 1)))
    (ix3 (j 0) ⟨(j 1).val % 256, Nat.mod_lt _ (by decide)⟩ (j 2))

/-- The one-hot array, likewise. -/
def encG (c : Dev nD) : Vec F S2x1024x1024 .f32 := fun j =>
  encW (xb0 V c (ptOf (j 1))) (xb1 V c (ptOf (j 1))) (xb2 V c (ptOf (j 1))) (xb3 V c (ptOf (j 1)))
    (ix3 (j 0) ⟨(j 1).val % 256, Nat.mod_lt _ (by decide)⟩ (j 2))

theorem index4 : ∀ t : Fin grid0.N, win0_4.index t = ![0, t.val, 0] := by decide +kernel
theorem index5 : ∀ t : Fin grid0.N, win0_5.index t = ![0, t.val, 0] := by decide +kernel

theorem at_emb4 (c : Dev nD) (t : Fin grid0.N) (y : S2x256x1024.Idx)
    (f : Fin cfg0.N → Vec F S2x256x1024 .f32) (i : S2x1024x1024.Idx)
    (h0 : (i 0).val = (y 0).val) (h1 : (i 1).val = 256 * t.val + (y 1).val) (h2 : (i 2).val = (y 2).val) :
    f t y = f (ptOf (i 1)) (ix3 (i 0) ⟨(i 1).val % 256, Nat.mod_lt _ (by decide)⟩ (i 2)) := by
  have hy1 : (y 1).val < 256 := (y 1).isLt
  have e : ptOf (i 1) = t := Fin.ext (by show (i 1).val / 256 = t.val; omega)
  rw [e]
  congr 1
  funext a
  match a with
  | ⟨0, _⟩ => exact Fin.ext h0.symm
  | ⟨1, _⟩ => exact Fin.ext (by show (y 1).val = (i 1).val % 256; omega)
  | ⟨2, _⟩ => exact Fin.ext h2.symm

/-- What the call leaves in the distances' array. -/
theorem final4 (c : Dev nD) {G : Buf (Elt F) ((c : Thread nD τ).loc main_v2_0)} (h : (rdat V c).ArrAt 4 cfg0.N G) : G = distG V c := by
  obtain ⟨X, hX, hA⟩ := h.exists_exact
  have e := hA (Function.update (fun _ _ _ => Classical.arbitrary _) 4 X) fun u _ _ => by rw [Function.update_self]
  rw [e]
  refine Pipeline.Dat.arrAt_eq_of_covers _ 4 _ (by decide +kernel) fun t hf y => ?_
  rw [RDat.withAfter_after, Function.update_self]
  obtain ⟨Y, -, hY⟩ := hX t t.isLt hf
  have hY' : X t = distW (xb0 V c t) (xb1 V c t) (xb2 V c t) (xb3 V c t) := hY
  rw [hY']
  blk_simp
  refine at_emb4 c t y (fun t => distW (xb0 V c t) (xb1 V c t) (xb2 V c t) (xb3 V c t)) _ ?_ ?_ ?_ <;>
    blk_simp [index4] <;> simp <;> omega

/-- What the call leaves in the one-hot array. -/
theorem final5 (c : Dev nD) {G : Buf (Elt F) ((c : Thread nD τ).loc main_v2_1)} (h : (rdat V c).ArrAt 5 cfg0.N G) : G = encG V c := by
  obtain ⟨X, hX, hA⟩ := h.exists_exact
  have e := hA (Function.update (fun _ _ _ => Classical.arbitrary _) 5 X) fun u _ _ => by rw [Function.update_self]
  rw [e]
  refine Pipeline.Dat.arrAt_eq_of_covers _ 5 _ (by decide +kernel) fun t hf y => ?_
  rw [RDat.withAfter_after, Function.update_self]
  obtain ⟨Y, -, hY⟩ := hX t t.isLt hf
  have hY' : X t = encW (xb0 V c t) (xb1 V c t) (xb2 V c t) (xb3 V c t) := hY
  rw [hY']
  blk_simp
  refine at_emb4 c t y (fun t => encW (xb0 V c t) (xb1 V c t) (xb2 V c t) (xb3 V c t)) _ ?_ ?_ ?_ <;>
    blk_simp [index5] <;> simp <;> omega

/-- The perplexity's cell. -/
def pplG (c : Dev nD) : Vec F S1x1 .f32 := pplW (cntAt V c 4)

/-- The last grid point. -/
def tLast : Fin cfg0.N := ⟨3, by have : cfg0.N = 4 := N_0; omega⟩

/-- What the call leaves in the perplexity's cell. -/
theorem final7 (c : Dev nD) {G : Buf (Elt F) ((c : Thread nD τ).loc main_v2_3)} (h : (rdat V c).ArrAt 7 cfg0.N G) : G = pplG V c := by
  obtain ⟨X, ⟨Y, -, hY⟩, hG⟩ := h.emb_eq_of_wholeAt (t₀ := tLast) (by decide +kernel)
  have hY' : X = pplW (cntAt V c 4) := (show (3 : ℕ) = 3 → X = pplW (cntAt V c (3 + 1)) from hY) rfl
  funext j
  refine (hG j).trans ?_
  rw [hY']
  rfl

/-- The point that fills row `r` of the index array. -/
def idxPt (r : Fin 16) : Fin cfg0.N := ⟨r.val % 8 / 2, by have : cfg0.N = 4 := N_0; omega⟩

/-- The index array: rows 0 to 7 of group 0, rows 8 to 15 of group 1, two rows a point. -/
def idxG (c : Dev nD) : Vec F S16x128 .i32 := fun j =>
  if (j 0).val < 8 then
    k0_pay8 (candA (xb0 V c (idxPt (j 0))) (xb1 V c (idxPt (j 0))) (xb2 V c (idxPt (j 0))) (xb3 V c (idxPt (j 0))))
      (ix2 ⟨(j 0).val % 2, Nat.mod_lt _ (by decide)⟩ (j 1))
  else
    k0_pay18 colV (lenB (xb3 V c (idxPt (j 0)))) (partB (xb0 V c (idxPt (j 0))) (xb1 V c (idxPt (j 0))) (xb2 V c (idxPt (j 0))) (xb3 V c (idxPt (j 0))))
      (ix2 ⟨(j 0).val % 2, Nat.mod_lt _ (by decide)⟩ (j 1))

theorem overlay_in {sh : Shape} {α : Type} (off size : Fin sh.rank → ℕ) (inb) (X : sh.Idx → α) (G : (Rect.unit off size inb).shape.Idx → α) (j : sh.Idx)
    (y : (Rect.unit off size inb).shape.Idx) (h : ∀ a, (j a).val = off a + (y a).val) : (Rect.unit off size inb).overlay X G j = G y := by
  have e : j = (Rect.unit off size inb).emb y := by
    funext a
    refine Fin.ext ((h a).trans ?_)
    show _ = off a + 1 * (y a).val
    omega
  rw [e, Rect.overlay_emb]

theorem overlay_out {sh : Shape} {α : Type} (off size : Fin sh.rank → ℕ) (inb) (X : sh.Idx → α) (G : (Rect.unit off size inb).shape.Idx → α) (j : sh.Idx)
    (a : Fin sh.rank) (h : ¬ (off a ≤ (j a).val ∧ (j a).val < off a + size a)) : (Rect.unit off size inb).overlay X G j = X j := by
  refine Rect.overlay_of_not_mem _ _ _ fun hm => h ?_
  exact Rect.mem_set_unit.mp hm a

theorem rows_in (off : Fin 2 → ℕ) (inb) (X : Vec F S16x128 .i32) (G : Vec F S2x128 .i32) (j : S16x128.Idx) (y : S2x128.Idx)
    (h0 : (j 0).val = off 0 + (y 0).val) (h1 : (j 1).val = off 1 + (y 1).val) :
    (Rect.unit (s := S16x128) off S2x128.size inb).overlay X G j = G y :=
  overlay_in (sh := S16x128) off S2x128.size inb X G j y fun a => match a with
    | ⟨0, _⟩ => h0
    | ⟨1, _⟩ => h1

/-- One point's effect on the index array: its own four rows are filled, the others stay. -/
theorem rows_at (i : grid0.Coords) (A B : Vec F S2x128 .i32) (y6 : Vec F S16x128 .i32) (j : S16x128.Idx) :
    (Rect.unit (s := S16x128) (k0_off1 i 8#32) S2x128.size (k0_off1_inb i 1)).overlay
      ((Rect.unit (s := S16x128) (k0_off1 i 0#32) S2x128.size (k0_off1_inb i 0)).overlay y6 A) B j
      = if (j 0).val % 8 / 2 = (i 0).val then
        (if (j 0).val < 8 then A (ix2 ⟨(j 0).val % 2, Nat.mod_lt _ (by decide)⟩ (j 1))
          else B (ix2 ⟨(j 0).val % 2, Nat.mod_lt _ (by decide)⟩ (j 1)))
      else y6 j := by
  have hj : (j 0).val < 16 := (j 0).isLt
  have hi : (i 0).val < 4 := (i 0).isLt
  have ea : ∀ a, k0_off1 i 0#32 a = (![8 * 0 + 2 * (i 0).val, 0] : Fin 2 → ℕ) a := fun a => congrFun (Gen.k0_off1_eq i 0) a
  have eb : ∀ a, k0_off1 i 8#32 a = (![8 * 1 + 2 * (i 0).val, 0] : Fin 2 → ℕ) a := fun a => congrFun (Gen.k0_off1_eq i 1) a
  have a0 : k0_off1 i 0#32 0 = 8 * 0 + 2 * (i 0).val := ea 0
  have a1 : k0_off1 i 0#32 1 = 0 := ea 1
  have b0 : k0_off1 i 8#32 0 = 8 * 1 + 2 * (i 0).val := eb 0
  have b1 : k0_off1 i 8#32 1 = 0 := eb 1
  have es : S2x128.size (0 : Fin 2) = 2 := rfl
  generalize k0_off1_inb i 1 = hB
  generalize k0_off1_inb i 0 = hA
  generalize k0_off1 i 0#32 = oA at *
  generalize k0_off1 i (BitVec.ofNat 32 (8 * (1 : Fin 2).val)) = oB at *
  by_cases h : (j 0).val % 8 / 2 = (i 0).val
  · rw [if_pos h]
    by_cases h8 : (j 0).val < 8
    · rw [if_pos h8]
      refine (overlay_out _ _ _ _ _ _ (0 : Fin 2) ?_).trans (rows_in oA hA y6 A j (ix2 ⟨(j 0).val % 2, Nat.mod_lt _ (by decide)⟩ (j 1)) ?_ ?_)
      · rw [b0]; omega
      · exact (by omega : (j 0).val = oA 0 + (j 0).val % 2)
      · exact (by omega : (j 1).val = oA 1 + (j 1).val)
    · rw [if_neg h8]
      refine rows_in oB hB _ B j (ix2 ⟨(j 0).val % 2, Nat.mod_lt _ (by decide)⟩ (j 1)) ?_ ?_
      · exact (by omega : (j 0).val = oB 0 + (j 0).val % 2)
      · exact (by omega : (j 1).val = oB 1 + (j 1).val)
  · rw [if_neg h]
    refine (overlay_out _ _ _ _ _ _ (0 : Fin 2) ?_).trans (overlay_out _ _ _ _ _ _ (0 : Fin 2) ?_)
    · rw [b0, es]; omega
    · rw [a0, es]; omega

theorem idxW_at (x0 : Vec F S256x768 .f32) (x1 : Vec F S768x256 .f32) (x2 : Vec F S256 .f32) (x3 : Vec F S2x1024x128 .f32)
    (i : grid0.Coords) (y6 : Vec F S16x128 .i32) (j : S16x128.Idx) :
    idxW x0 x1 x2 x3 i y6 j = if (j 0).val % 8 / 2 = (i 0).val then
        (if (j 0).val < 8 then k0_pay8 (candA x0 x1 x2 x3) (ix2 ⟨(j 0).val % 2, Nat.mod_lt _ (by decide)⟩ (j 1))
          else k0_pay18 colV (lenB x3) (partB x0 x1 x2 x3) (ix2 ⟨(j 0).val % 2, Nat.mod_lt _ (by decide)⟩ (j 1)))
      else y6 j :=
  rows_at i _ _ y6 j

theorem fetch6 : ∀ t : Fin cfg0.N, (cfg0.win 6).fetch t = false := by decide +kernel

/-- After point `t` the rows of the points up to `t` are filled. -/
theorem leaves6 (c : Dev nD) : ∀ (n : ℕ) (t : Fin cfg0.N), t.val = n → ∀ X, (rdat V c).Leaves 6 t X →
    ∀ j : S16x128.Idx, (j 0).val % 8 / 2 ≤ n → X j = idxG V c j := by
  intro n
  induction n with
  | zero =>
    rintro t ht X ⟨Y, -, hY⟩ j hj
    have hY' : X = idxW (xb0 V c t) (xb1 V c t) (xb2 V c t) (xb3 V c t) (grid0.coords t) Y := hY
    have et : (j 0).val % 8 / 2 = (grid0.coords t 0).val := by rw [coord_val t]; omega
    have ep : idxPt (j 0) = t := Fin.ext (by show (j 0).val % 8 / 2 = t.val; omega)
    rw [hY', idxW_at, if_pos et]
    unfold idxG
    rw [ep]
  | succ n ih =>
    rintro t ht X ⟨Y, hf, hY⟩ j hj
    have hY' : X = idxW (xb0 V c t) (xb1 V c t) (xb2 V c t) (xb3 V c t) (grid0.coords t) Y := hY
    rw [hY', idxW_at]
    split
    · rename_i et
      rw [coord_val t] at et
      have ep : idxPt (j 0) = t := Fin.ext (by show (j 0).val % 8 / 2 = t.val; omega)
      unfold idxG
      rw [ep]
    · rename_i et
      rw [coord_val t] at et
      have hN : cfg0.N = 4 := N_0
      have ht4 := t.isLt
      rw [(rdat V c).finds_of_pos (fetch6 t) (by omega)] at hf
      rcases hf with hf | hf
      · exact absurd ((flush0_6 _).mp hf) (by show ¬ (t.val - 1) % 4 = 3; omega)
      · exact ih _ (by show t.val - 1 = n; omega) Y hf j (by omega)

/-- What the call leaves in the index array. -/
theorem final6 (c : Dev nD) {G : Buf (Elt F) ((c : Thread nD τ).loc main_v2_2)} (h : (rdat V c).ArrAt 6 cfg0.N G) : G = idxG V c := by
  obtain ⟨X, hX, hG⟩ := h.emb_eq_of_wholeAt (t₀ := tLast) (by decide +kernel)
  funext j
  have hj : (j 0).val < 16 := (j 0).isLt
  refine (hG j).trans (Eq.trans ?_ (leaves6 V c 3 tLast rfl X hX j (by omega)))
  rfl

end Cert.Proof.Vq

end
-- ==== Proof.Vq.ScTile.lean ====
/-
  One SparseCore task. Tile `(c, s)` copies its 64 row numbers out of the list, gathers those rows of the table, and
  copies them out to its block of the result. The run is taken once, at a symbolic tile, and says what the block ends
  with: row `n` of it is the table's row that the list names (`gath`).
-/
module

public import proofs.«01_k».proof.Proof.Vq.Base
public import Idealize.ShloMosaic.Lib.ShareLeaves
public import Idealize.ShloMosaic.Lib.ValueIdxCore

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig (HIx 1) (Elt F) ℕ UU ℕ

abbrev 𝒱₀ : Variants := Variants.none
abbrev 𝒱 : Variants := 𝒱₀.lift
abbrev v₀ : 𝒱.V := Sum.inl none

/-- The row list, the table and the result, in the TensorCore's naming. -/
abbrev iLoc (d : Dev nD) : Loc nD τ sig := (SparseCore.T d).loc main_v3
abbrev xLoc (d : Dev nD) : Loc nD τ sig := (SparseCore.T d).loc main_v1
abbrev oLoc (d : Dev nD) : Loc nD τ sig := (SparseCore.T d).loc main_v4

abbrev iV : Memref sig .scVector .hbm S2048 .i32 := Memref.whole main_v3_scv
abbrev xV : Memref sig .scVector .hbm S2048x128 .f32 := Memref.whole main_v1_scv
abbrev oV : Memref sig .scVector .hbm S2x512x256 .f32 := Memref.whole main_v4_scv
abbrev sV : Memref sig .scVector .vmem S64 .i32 := Memref.whole cc1_scratch0
abbrev rV : Memref sig .scVector .vmem S64x128 .f32 := Memref.whole cc1_scratch1

/-- The number of the list's entry that names the row for group `g`, batch `b`, position `t`. -/
def entry (j : S2x512x256.Idx) : Fin 2048 :=
  ⟨(j 2).val / 128 * 1024 + (j 0).val * 512 + (j 1).val, by
    have h0 : (j 0).val < 2 := (j 0).isLt
    have h1 : (j 1).val < 512 := (j 1).isLt
    have h2 : (j 2).val < 256 := (j 2).isLt
    omega⟩

/-- The gathered result: at `(b, t, g·128 + k)` the table at the row that entry `(g, b, t)` of the list names, column `k`. -/
def gath {α : Type} (fi : S2048.Idx → BitVec 32) (fx : S2048x128.Idx → α) : S2x512x256.Idx → α := fun j =>
  fx (ix2 ⟨(fi (ix1 (entry j))).toNat % 2048, Nat.mod_lt _ (by decide)⟩ ⟨(j 2).val % 128, Nat.mod_lt _ (by decide)⟩)

section Tile

variable (fi : (d : Dev nD) → Buf (Elt F) (iLoc d)) (fx : (d : Dev nD) → Buf (Elt F) (xLoc d)) (fo : (d : Dev nD) → Buf (Elt F) (oLoc d))
variable (d : Dev nD) (L : grid1.Coords)

abbrev cV (L : grid1.Coords) : Fin τ.nSC := (L 0).castLE hcore1
abbrev jV (L : grid1.Coords) : Fin τ.nSub := (L 1).castLE hsub1

/-- The tile's number: its SparseCore's sixteen tiles follow the other's. -/
def tileNo (L : grid1.Coords) : Fin (2 ^ 5) :=
  ⟨16 * (L 0).val + (L 1).val, by
    have h0 : (L 0).val < 2 := (L 0).isLt
    have h1 : (L 1).val < 16 := (L 1).isLt
    omega⟩

abbrev iRowK (L : grid1.Coords) : Memref sig .scVector .hbm S64 .i32 :=
  iV.slice (Rect.unit (s := S2048) (k1_off1 L) S64.size (k1_off1_inb L)) (fun _ => rfl)
abbrev oRowK (L : grid1.Coords) : Memref sig .scVector .hbm S64x128 .f32 :=
  (oV.slice (Rect.unit (s := S2x512x256) (k1_off2 L) S1x64x128.size (k1_off2_inb L)) (fun _ => rfl)).squeeze S64x128 squeezes_S1x64x128_S64x128
abbrev xAllK : Memref sig .scVector .hbm S2048x128 .f32 :=
  xV.slice (Rect.unit (s := S2048x128) ![0, 0] S2048x128.size inb_S2048x128_S2048x128_0_0) (fun _ => rfl)

/-- The tile's share of the table. -/
abbrev xq (L : grid1.Coords) : PosShare TreeShare := ShareLeaves.leaf 5 fullShare (tileNo L)

abbrev iRowPts (f : Buf (Elt F) (iLoc d)) : sProp 𝕄 := iLoc d ↦[(iRowK L).view.set]{fullShare} f
abbrev xShPts (f : Buf (Elt F) (xLoc d)) : sProp 𝕄 := xLoc d ↦{xq L} f
abbrev oRowPts (f : Buf (Elt F) (oLoc d)) : sProp 𝕄 := oLoc d ↦[(oRowK L).view.set]{fullShare} f

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

omit [FloatOps F] in
/-- The tile's three transfer semaphores among its own, all at zero. -/
theorem ownSems_split :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  have hA : cAcell d (cV L) (jV L) ∈ ownCells (V d (cV L) (jV L)) :=
    mem_ownCells.mpr ⟨rfl, show (SemLoc.dma cc1_scratch2.sem : SemLoc sig).isScoped .scVector = true by decide⟩
  have hB : cBcell d (cV L) (jV L) ∈ ownCells (V d (cV L) (jV L)) :=
    mem_ownCells.mpr ⟨rfl, show (SemLoc.dma cc1_scoped0.sem : SemLoc sig).isScoped .scVector = true by decide⟩
  have hC : cCcell d (cV L) (jV L) ∈ ownCells (V d (cV L) (jV L)) :=
    mem_ownCells.mpr ⟨rfl, show (SemLoc.dma cc1_scoped1.sem : SemLoc sig).isScoped .scVector = true by decide⟩
  have hAB : cBcell d (cV L) (jV L) ≠ cAcell d (cV L) (jV L) := by simp [cAcell, cBcell]; decide
  have hAC : cCcell d (cV L) (jV L) ≠ cAcell d (cV L) (jV L) := by simp [cAcell, cCcell]; decide
  have hBC : cCcell d (cV L) (jV L) ≠ cBcell d (cV L) (jV L) := by simp [cBcell, cCcell]; decide
  rw [SparseCore.bigSep_erase' hA, SparseCore.bigSep_erase' (Finset.mem_erase.mpr ⟨hAB, hB⟩),
    SparseCore.bigSep_erase' (Finset.mem_erase.mpr ⟨hBC, Finset.mem_erase.mpr ⟨hAC, hC⟩⟩)]

omit [FloatOps F] in
/-- The tile's two scratch buffers among its own, at some contents. -/
theorem ownBufs_split :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  have hA : (Proc.scVector (cV L) (jV L)).devRef cc1_scratch0 ∈ ownRefs (τ := τ) (.scVector (cV L) (jV L)) :=
    SparseCore.Cfg.mem_ownRefs_of_owner (p := Proc.scVector (cV L) (jV L)) rfl
  have hB : (Proc.scVector (cV L) (jV L)).devRef cc1_scratch1 ∈ ownRefs (τ := τ) (.scVector (cV L) (jV L)) :=
    SparseCore.Cfg.mem_ownRefs_of_owner (p := Proc.scVector (cV L) (jV L)) rfl
  have hAB : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  refine (SparseCore.bigSep_erase' hA).trans ?_
  rw [SparseCore.bigSep_erase' (Finset.mem_erase.mpr ⟨hAB, hB⟩)]

/-- What the index copy lands in the tile's list. -/
abbrev lst (f : Buf (Elt F) (iLoc d)) (fs : Buf (Elt F) ((V d (cV L) (jV L)).loc cc1_scratch0)) : Buf (Elt F) ((V d (cV L) (jV L)).loc cc1_scratch0) :=
  View.write (Elt F) sV.view fs ((iRowK L).view.read (Elt F) f) Finset.univ

omit [FloatOps F] in
theorem lst_apply (f : Buf (Elt F) (iLoc d)) (fs : Buf (Elt F) ((V d (cV L) (jV L)).loc cc1_scratch0)) (x : S64.Idx) :
    sV.view.read (Elt F) (lst d L f fs) x = f ((iRowK L).view.emb x) := by
  unfold lst
  rw [View.write_whole_univ]
  simp only [Memref.view_whole, View.read_whole]
  exact (View.read_apply _ _).trans (cast_eq _ _)

omit [FloatOps F] in
/-- The words the stream reads are rows of the table. -/
theorem lst_lt {f : Buf (Elt F) (iLoc d)} (hf : ∀ j : S2048.Idx, (f j).toNat < 2048) (fs : Buf (Elt F) ((V d (cV L) (jV L)).loc cc1_scratch0)) (x : S64.Idx) :
    (sV.view.read (Elt F) (lst d L f fs) x).toNat < S2048x128.size gathers_S2048x128_S64x128.axis := by
  rw [lst_apply]; exact hf _

theorem off2_eq : ∀ i : grid1.Coords, k1_off2 i = ![(i 1).val / 8, (i 1).val % 8 * 64, (i 0).val * 128] := by decide +kernel

/-- Where element `y` of the tile's block lies in the result. -/
theorem emb_oRowK (y : S64x128.Idx) :
    (((oRowK L).view.emb y : S2x512x256.Idx) 0).val = (L 1).val / 8
      ∧ (((oRowK L).view.emb y : S2x512x256.Idx) 1).val = (L 1).val % 8 * 64 + (y 0).val
      ∧ (((oRowK L).view.emb y : S2x512x256.Idx) 2).val = (L 0).val * 128 + (y 1).val := by
  have e : (oRowK L).view.emb y = (Rect.unit (s := S2x512x256) (k1_off2 L) S1x64x128.size (k1_off2_inb L)).idx
      (Shape.reshapeEquiv squeezes_S1x64x128_S64x128.numel_eq y) := rfl
  have c : Shape.reshapeEquiv squeezes_S1x64x128_S64x128.numel_eq y = Fin.cons ⟨0, Nat.one_pos⟩ y :=
    Shape.reshapeEquiv_cons_one (n := 2) (d := ![64, 128]) squeezes_S1x64x128_S64x128.numel_eq y
  rw [e, c]
  refine ⟨?_, ?_, ?_⟩
  · show k1_off2 L 0 + 1 * 0 = _
    rw [off2_eq]; rfl
  · show k1_off2 L 1 + 1 * (y 0).val = _
    rw [off2_eq, Nat.one_mul]; rfl
  · show k1_off2 L 2 + 1 * (y 1).val = _
    rw [off2_eq, Nat.one_mul]; rfl

/-- Where entry `x` of the tile's part of the list lies in it. -/
theorem emb_iRowK (x : S64.Idx) :
    (((iRowK L).view.emb x : S2048.Idx) 0).val = 1024 * (L 0).val + 64 * (L 1).val + (x 0).val := by
  show k1_off1 L 0 + 1 * (x 0).val = _
  rw [k1_off1_eq, Nat.one_mul]; rfl

omit [FloatOps F] in
/-- THE TILE'S BLOCK: written with the gathered rows it agrees with `gath` there. -/
theorem block_value {f : Buf (Elt F) (iLoc d)} (hf : ∀ j : S2048.Idx, (f j).toNat < 2048) (g : Buf (Elt F) (xLoc d)) (o : Buf (Elt F) (oLoc d))
    (fs : Buf (Elt F) ((V d (cV L) (jV L)).loc cc1_scratch0)) (fr : Buf (Elt F) ((V d (cV L) (jV L)).loc cc1_scratch1))
    (hn : S64.numel = S64x128.size gathers_S2048x128_S64x128.axis') :
    ∀ j ∈ (oRowK L).view.set,
      (oRowK L).view.writes (Elt F) o [⟨Rect.whole S64x128, View.read (Elt F) rV.view (View.write (Elt F) rV.view fr
        (SparseCore.gatherPayload gathers_S2048x128_S64x128 (View.read (Elt F) xAllK.view g)
          (SparseCore.rows (View.read (Elt F) sV.view (lst d L f fs)) hn (lst_lt d L hf fs))) Finset.univ)⟩] j = gath f g j := by
  intro j hj
  obtain ⟨y, -, rfl⟩ := Finset.mem_map.mp hj
  rw [← View.write_univ_eq_writes_whole, View.writes_nil, View.write_emb_of_mem _ _ (Finset.mem_univ _), cast_eq]
  rw [View.write_whole_univ]
  simp only [Memref.view_whole, View.read_whole]
  obtain ⟨e0, e1, e2⟩ := emb_oRowK L y
  have hy0 : (y 0).val < 64 := (y 0).isLt
  have hy1 : (y 1).val < 128 := (y 1).isLt
  have hL0 : (L 0).val < 2 := (L 0).isLt
  have hL1 : (L 1).val < 16 := (L 1).isLt
  unfold SparseCore.gatherPayload gath
  rw [View.read_apply, cast_eq]
  have hx : ∀ z : S2048x128.Idx, (xAllK.view.emb z : S2048x128.Idx) = z := fun z => by
    funext a
    refine Fin.ext ?_
    show (![0, 0] : Fin 2 → ℕ) a + 1 * (z a).val = (z a).val
    match a with
    | 0 => simp
    | 1 => simp
  refine (congrArg g (hx _)).trans (congrArg g ?_)
  have hent : ((iRowK L).view.emb (ix1 ⟨(y 0).val, hy0⟩) : S2048.Idx) = ix1 (entry ((oRowK L).view.emb y)) := by
    funext a
    match a with
    | 0 =>
      refine Fin.ext ?_
      rw [emb_iRowK]
      show _ = (((oRowK L).view.emb y : S2x512x256.Idx) 2).val / 128 * 1024 + (((oRowK L).view.emb y : S2x512x256.Idx) 0).val * 512
        + (((oRowK L).view.emb y : S2x512x256.Idx) 1).val
      rw [e0, e1, e2]
      show 1024 * (L 0).val + 64 * (L 1).val + (y 0).val = _
      omega
  funext a
  match a with
  | 0 =>
    refine Fin.ext ?_
    have h := Shape.Gathers.idx_axis gathers_S2048x128_S64x128 (SparseCore.rows (View.read (Elt F) sV.view (lst d L f fs)) hn (lst_lt d L hf fs)) y
    refine (congrArg Fin.val h).trans ?_
    show (View.read (Elt F) sV.view (lst d L f fs) _).toNat = (f (ix1 (entry ((oRowK L).view.emb y)))).toNat % 2048
    rw [lst_apply, Nat.mod_eq_of_lt (hf _), ← hent]
    refine congrArg (fun z => (f ((iRowK L).view.emb z)).toNat) ?_
    refine (Equiv.symm_apply_eq _).mpr (Fin.ext ?_)
    rw [Shape.rowMajor_val_one]
    rfl
  | 1 =>
    refine Fin.ext ?_
    refine (Shape.Gathers.idx_of_ne gathers_S2048x128_S64x128 _ y 1 (by decide)).trans ?_
    show (y 1).val = (((oRowK L).view.emb y : S2x512x256.Idx) 2).val % 128
    rw [e2]; omega

set_option maxHeartbeats 4000000 in
/-- The task on tile `L`: in come its entries of the list, its share of the table and its block of the result; out they
    come, the block at the gathered rows. -/
theorem tile_body (hF : (K F).Facts) (hfi : ∀ (d : Dev nD) (j : S2048.Idx), (fi d j).toNat < 2048)
    (O : CellTallies nD τ sig (HIx 1)) (W : Waits sig (HIx 1)) (hO : ∀ g, O g none = 0) :
    iprop(levAts (K F).L (K F).lev ∗ emp
        ∗ (iRowPts d L (fi d) ∗ xShPts d L (fx d) ∗ oRowPts d L (fo d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L iV (Memref.isWhole_whole _) xV (Memref.isWhole_whole _) oV (Memref.isWhole_whole _)
            sV (Memref.isWhole_whole _) rV (Memref.isWhole_whole _) cc1_scratch2 cc1_scoped0 cc1_scoped1)
          fun _ => iprop((iRowPts d L (fi d) ∗ xShPts d L (fx d) ∗ oRowPts d L (gath (fi d) (fx d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  simp only [k1_part1_eq_skeleton]; unfold k1_part1_skel
  rw [(K F).scopedBufs_V hF d (cV L) (jV L), SparseCore.Cfg.scopedSems0_V (Val := Elt F) d (cV L) (jV L), ownSems_split, ownBufs_split]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K F).L (K F).lev ⊢ Transfers.MayWaits (V d (cV L) (jV L)) (default : HIx 1) O from
    (K F).mayWaits_none (thr := V d (cV L) (jV L)) hO) $$ Hlv
  ihave Hi' := (show (iRowPts d L (fi d) : sProp 𝕄) ⊢ (iRowK L).view.loc (V d (cV L) (jV L)) ↦[(iRowK L).view.set]{fullShare} fi d from Entails.of_eq rfl) $$ Hi
  ihave Ho' := (show (oRowPts d L (fo d) : sProp 𝕄) ⊢ (oRowK L).view.loc (V d (cV L) (jV L)) ↦[(oRowK L).view.set]{fullShare} fo d from Entails.of_eq rfl) $$ Ho
  ihave Hx' := (show (xShPts d L (fx d) : sProp 𝕄) ⊢ xV.view.loc (V d (cV L) (jV L)) ↦{xq L} fx d from Entails.of_eq rfl) $$ Hx
  ihave Hs' := (show ((V d (cV L) (jV L)).loc cc1_scratch0 ↦{fullShare} fs : sProp 𝕄) ⊢ sV.view.loc (V d (cV L) (jV L)) ↦{fullShare} fs from Entails.of_eq rfl) $$ Hs
  ihave Hr' := (show ((V d (cV L) (jV L)).loc cc1_scratch1 ↦{fullShare} fr : sProp 𝕄) ⊢ rV.view.loc (V d (cV L) (jV L)) ↦{fullShare} fr from Entails.of_eq rfl) $$ Hr
  sl_exec
  ihave Hxs := (pointsTo_split_subset (q := xq L) (f := fx d) (S := Finset.univ) (Finset.subset_univ xAllK.view.set)).1 $$ Hx'
  icases Hxs with ⟨Hxs, Hxr⟩
  have hrs : rV.view.set = Finset.univ := View.set_whole _
  have hss : sV.view.set = Finset.univ := View.set_whole _
  ihave Hr'' := (Entails.of_eq (show (rV.view.loc (V d (cV L) (jV L)) ↦{fullShare} fr : sProp 𝕄)
      = rV.view.loc (V d (cV L) (jV L)) ↦[rV.view.set]{fullShare} fr by rw [hrs])) $$ Hr'
  ihave Hs'' := (Entails.of_eq (show (sV.view.loc (V d (cV L) (jV L)) ↦{fullShare} View.write (Elt F) sV.view fs (tile_body.sl.dma0 fi d L) Finset.univ : sProp 𝕄)
      = sV.view.loc (V d (cV L) (jV L)) ↦[sV.view.set]{fullShare} lst d L (fi d) fs by rw [hss]; rfl)) $$ Hs'
  have hN : ∀ h : S2048x128.Gathers 0 S64x128, ∑ j, (rV.slice (S64x128.rowRect h.axis' j) (S64x128.stride_rowRect h.axis' j)).view.dmaCredit
      = rV.view.dmaCredit := by decide
  iapply (SparseCore.wp_indirectGatherLocal countersEmb 𝒱₀ (V d (cV L) (jV L)) none (hg := gathers_S2048x128_S64x128) (default : HIx 1)
      rV.view.dmaCredit (hN _) (by decide) (lst_lt d L (hfi d) fs)) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemA, HO⟩
  ihave Hx' := (pointsTo_split_subset (q := xq L) (f := fx d) (S := Finset.univ) (Finset.subset_univ xAllK.view.set)).2 $$ [Hxs Hxr]; · isplitl [Hxs] <;> iassumption
  ihave Hr3 := (Entails.of_eq (show (rV.view.loc (V d (cV L) (jV L)) ↦[rV.view.set]{fullShare} _ : sProp 𝕄)
      = rV.view.loc (V d (cV L) (jV L)) ↦{fullShare} _ by rw [hrs])) $$ Hr'
  ihave Hs3 := (Entails.of_eq (show (sV.view.loc (V d (cV L) (jV L)) ↦[sV.view.set]{fullShare} _ : sProp 𝕄)
      = sV.view.loc (V d (cV L) (jV L)) ↦{fullShare} _ by rw [hss])) $$ Hs'
  sl_exec
  sl_step
  isplitl [Hi' Hx' Ho']
  · isplitl [Hi']; · iexact Hi'
    isplitl [Hx']; · iexact Hx'
    iapply (Entails.of_eq (pointsTo_congr (block_value d L (hfi d) (fx d) (fo d) fs fr rfl)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Vq

end
-- ==== Proof.Vq.ScCall.lean ====
/-
  The SparseCore call as the launch theorem asks for it: what the TensorCore hands each SparseCore and what each hands its
  sixteen tiles, one record generic in the list `fi`, the table `fx` and the result's earlier contents `fo`; each tile's
  obligation, from its run; and that the thirty-two tiles' pieces together are the three whole buffers.
-/
module

public import proofs.«01_k».proof.Proof.Vq.ScTile

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig (HIx 1) (Elt F) ℕ UU ℕ

theorem sc_facts : (K F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

omit [FloatOps F] in
theorem nCore_zero : (K F).nCore 0 = 2 := rfl
omit [FloatOps F] in
theorem nSub_zero : (K F).nSub 0 = 16 := rfl

/-- The coordinates of tile `s` of SparseCore `c`. -/
def tix (c : Fin (grid1.bound 0)) (s : Fin (grid1.bound 1)) : grid1.Coords :=
  fun | 0 => c | 1 => s | ⟨_ + 2, h⟩ => absurd h (Nat.not_lt.2 (Nat.le_add_left _ _))

/-- The coordinates at a call's own core and tile numbers. -/
abbrev tc0 (c : Fin ((K F).nCore 0)) (i : Fin ((K F).nSub 0)) : grid1.Coords := tix ⟨c.val, c.isLt⟩ ⟨i.val, i.isLt⟩

variable (fi : (d : Dev nD) → Buf (Elt F) (iLoc d)) (fx : (d : Dev nD) → Buf (Elt F) (xLoc d)) (fo : (d : Dev nD) → Buf (Elt F) (oLoc d))

/-- What a tile takes: its entries of the list, its share of the table, its block of the result. -/
abbrev goes (d : Dev nD) (L : grid1.Coords) (o : Buf (Elt F) (oLoc d)) : sProp 𝕄 :=
  iprop(iRowPts d L (fi d) ∗ xShPts d L (fx d) ∗ oRowPts d L o)

/-- What the handshakes carry: each core its tiles' pieces, each tile its own; back they come with the gathered rows. -/
def P : (K F).Pay (nD := nD) (Val := Elt F) (Name := ℕ) (U := UU) where
  st := fun q d c => match q with | 0 => bigSep Finset.univ fun i : Fin ((K F).nSub 0) => goes fi fx d (tc0 (F := F) c i) (fo d)
  dn := fun q d c => match q with | 0 => bigSep Finset.univ fun i : Fin ((K F).nSub 0) => goes fi fx d (tc0 (F := F) c i) (gath (fi d) (fx d))
  go := fun q d c i => match q with | 0 => goes fi fx d (tc0 (F := F) c i) (fo d)
  td := fun q d c i => match q with | 0 => goes fi fx d (tc0 (F := F) c i) (gath (fi d) (fx d))
  x := fun _ _ => iprop(emp)

instance P_storable : (P fi fx fo).IsStorable where
  st q d c := match q with
    | 0 => (inferInstance : BI.Storable (upEmb : UEmb _ 𝕄) (bigSep Finset.univ fun i : Fin ((K F).nSub 0) => goes fi fx d (tc0 (F := F) c i) (fo d)))
  dn q d c := match q with
    | 0 => (inferInstance : BI.Storable (upEmb : UEmb _ 𝕄) (bigSep Finset.univ fun i : Fin ((K F).nSub 0) => goes fi fx d (tc0 (F := F) c i) (gath (fi d) (fx d))))
  go q d c i := match q with
    | 0 => (inferInstance : BI.Storable (upEmb : UEmb _ 𝕄) (goes fi fx d (tc0 (F := F) c i) (fo d)))
  td q d c i := match q with
    | 0 => (inferInstance : BI.Storable (upEmb : UEmb _ 𝕄) (goes fi fx d (tc0 (F := F) c i) (gath (fi d) (fx d))))

theorem defs₀_vector (c : Fin τ.nSC) (s : Fin τ.nSub) :
    defs₀ (F := F) (.scVector c s) 1 ()
      = SparseCore.onTile hcore1 hsub1 (fun c s => cc1__sc_body (tix c s)
          iV (Memref.isWhole_whole _) xV (Memref.isWhole_whole _) oV (Memref.isWhole_whole _)
          sV (Memref.isWhole_whole _) rV (Memref.isWhole_whole _) cc1_scratch2 cc1_scoped0 cc1_scoped1) ⟨⟩ c s := rfl

omit [FloatOps F] in
/-- The waits a task records are below the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono .rfl (sep_mono .rfl (sep_mono .rfl (exists_mono fun W' => sep_mono (BI.pure_mono fun h p hp => (h p hp).imp_right Or.inl) .rfl)))

/-- Every tile's task meets its obligation, the list's words being rows of the table. -/
theorem tileObl (hfi : ∀ (d : Dev nD) (j : S2048.Idx), (fi d j).toNat < 2048) : (K F).TileObl (D F) 𝒱 (P fi fx fo) v₀ 0 := by
  intro d c i O W hO _ _
  simp only [show (P fi fx fo).ox = fun _ _ => 0 from rfl, add_zero]
  have hci : ((K F).core 0 c).val < grid1.bound 0 ∧ ((K F).sub 0 i).val < grid1.bound 1 := ⟨c.isLt, i.isLt⟩
  change _ ⊢ wp _ _ _ (Pipeline.liftProg (defs₀ (F := F) (.scVector ((K F).core 0 c) ((K F).sub 0 i)) 1 ())) _
  refine BI.Entails.trans ?_ (Pipeline.wp_liftProg (D F) (Pipeline.defs_kernel pcfgs defs₀) 𝒱₀ _ Set.univ none _ _)
  rw [defs₀_vector]; simp only [SparseCore.onTile, hci, and_self, ↓reduceDIte]
  exact (tile_body fi fx fo d (tix ⟨_, hci.1⟩ ⟨_, hci.2⟩) sc_facts hfi O W hO).trans (wp_mono frame _ _ fun _ => obl_post)

/-- Each core's operands are its tiles' pieces. -/
theorem vecSplit : (K F).VecSplit' (P fi fx fo) 0 := by
  intro d c
  show (bigSep Finset.univ fun i : Fin ((K F).nSub 0) => goes fi fx d (tc0 (F := F) c i) (fo d)) ⊢ |={Set.univ}=> iprop(
      (bigSep Finset.univ fun i : Fin ((K F).nSub 0) => goes fi fx d (tc0 (F := F) c i) (fo d))
      ∗ ((bigSep Finset.univ fun i : Fin ((K F).nSub 0) => goes fi fx d (tc0 (F := F) c i) (gath (fi d) (fx d)))
          -∗ bigSep Finset.univ fun i : Fin ((K F).nSub 0) => goes fi fx d (tc0 (F := F) c i) (gath (fi d) (fx d))))
  iintro H; imodintro
  isplitl [H]; · iexact H
  iintro H; iexact H

/-! ## The pieces together -/

theorem mem_iSet (L : grid1.Coords) (j : S2048.Idx) : j ∈ (iRowK L).view.set ↔ (j 0).val / 64 = 16 * (L 0).val + (L 1).val := by
  have e : (iRowK L).view.set = (Rect.unit (s := S2048) (k1_off1 L) S64.size (k1_off1_inb L)).set := by
    show ((View.whole (main_v3_scv : Ref sig .scVector)).slice (Rect.unit (s := S2048) (k1_off1 L) S64.size (k1_off1_inb L))).set = _
    rw [View.set_slice]; exact Finset.map_refl
  rw [e, Rect.mem_set_unit, k1_off1_eq]
  constructor
  · intro h
    have h0 := h 0
    change 1024 * (L 0).val + 64 * (L 1).val ≤ (j 0).val ∧ (j 0).val < 1024 * (L 0).val + 64 * (L 1).val + 64 at h0
    omega
  · intro h a
    match a with
    | 0 =>
      show 1024 * (L 0).val + 64 * (L 1).val ≤ (j 0).val ∧ (j 0).val < 1024 * (L 0).val + 64 * (L 1).val + 64
      omega

theorem mem_oSet (L : grid1.Coords) (j : S2x512x256.Idx) :
    j ∈ (oRowK L).view.set ↔ (j 0).val = (L 1).val / 8 ∧ (j 1).val / 64 = (L 1).val % 8 ∧ (j 2).val / 128 = (L 0).val := by
  have e : (oRowK L).view.set = (Rect.unit (s := S2x512x256) (k1_off2 L) S1x64x128.size (k1_off2_inb L)).set := by
    show (((View.whole (main_v4_scv : Ref sig .scVector)).slice (Rect.unit (s := S2x512x256) (k1_off2 L) S1x64x128.size (k1_off2_inb L))).reshape S64x128 squeezes_S1x64x128_S64x128.numel_eq).set = _
    rw [View.set_reshape, View.set_slice]; exact Finset.map_refl
  rw [e, Rect.mem_set_unit, off2_eq]
  constructor
  · intro h
    have h0 := h 0
    have h1 := h 1
    have h2 := h 2
    change (L 1).val / 8 ≤ (j 0).val ∧ (j 0).val < (L 1).val / 8 + 1 at h0
    change (L 1).val % 8 * 64 ≤ (j 1).val ∧ (j 1).val < (L 1).val % 8 * 64 + 64 at h1
    change (L 0).val * 128 ≤ (j 2).val ∧ (j 2).val < (L 0).val * 128 + 128 at h2
    omega
  · intro h a
    match a with
    | 0 =>
      show (L 1).val / 8 ≤ (j 0).val ∧ (j 0).val < (L 1).val / 8 + 1
      omega
    | 1 =>
      show (L 1).val % 8 * 64 ≤ (j 1).val ∧ (j 1).val < (L 1).val % 8 * 64 + 64
      omega
    | 2 =>
      show (L 0).val * 128 ≤ (j 2).val ∧ (j 2).val < (L 0).val * 128 + 128
      omega

/-- The coordinates of a core and a tile. -/
abbrev tp (p : Fin 2 × Fin 16) : grid1.Coords := tix p.1 p.2

theorem iSet_disjoint : ∀ p ∈ (Finset.univ : Finset (Fin 2 × Fin 16)), ∀ p' ∈ (Finset.univ : Finset (Fin 2 × Fin 16)), p ≠ p' →
    Disjoint (iRowK (tp p)).view.set (iRowK (tp p')).view.set := by
  intro p _ p' _ h
  refine Finset.disjoint_left.mpr fun j hj hj' => h ?_
  have a := (mem_iSet (tp p) j).mp hj
  have b := (mem_iSet (tp p') j).mp hj'
  change _ = 16 * p.1.val + p.2.val at a
  change _ = 16 * p'.1.val + p'.2.val at b
  exact Prod.ext (Fin.ext (by omega)) (Fin.ext (by omega))

theorem iSet_cover : (Finset.univ : Finset (Fin 2 × Fin 16)).biUnion (fun p => (iRowK (tp p)).view.set) = (Finset.univ : Finset S2048.Idx) := by
  refine Finset.eq_univ_iff_forall.mpr fun j => Finset.mem_biUnion.mpr ?_
  have hj : (j 0).val < 2048 := (j 0).isLt
  refine ⟨(⟨(j 0).val / 1024, by omega⟩, ⟨(j 0).val / 64 % 16, by omega⟩), Finset.mem_univ _, (mem_iSet _ j).mpr ?_⟩
  show (j 0).val / 64 = 16 * ((j 0).val / 1024) + (j 0).val / 64 % 16
  omega

theorem oSet_disjoint : ∀ p ∈ (Finset.univ : Finset (Fin 2 × Fin 16)), ∀ p' ∈ (Finset.univ : Finset (Fin 2 × Fin 16)), p ≠ p' →
    Disjoint (oRowK (tp p)).view.set (oRowK (tp p')).view.set := by
  intro p _ p' _ h
  refine Finset.disjoint_left.mpr fun j hj hj' => h ?_
  have a := (mem_oSet (tp p) j).mp hj
  have b := (mem_oSet (tp p') j).mp hj'
  change _ = p.2.val / 8 ∧ _ = p.2.val % 8 ∧ _ = p.1.val at a
  change _ = p'.2.val / 8 ∧ _ = p'.2.val % 8 ∧ _ = p'.1.val at b
  exact Prod.ext (Fin.ext (by omega)) (Fin.ext (by omega))

theorem oSet_cover : (Finset.univ : Finset (Fin 2 × Fin 16)).biUnion (fun p => (oRowK (tp p)).view.set) = (Finset.univ : Finset S2x512x256.Idx) := by
  refine Finset.eq_univ_iff_forall.mpr fun j => Finset.mem_biUnion.mpr ?_
  have h0 : (j 0).val < 2 := (j 0).isLt
  have h1 : (j 1).val < 512 := (j 1).isLt
  have h2 : (j 2).val < 256 := (j 2).isLt
  refine ⟨(⟨(j 2).val / 128, by omega⟩, ⟨(j 0).val * 8 + (j 1).val / 64, by omega⟩), Finset.mem_univ _, (mem_oSet _ j).mpr ?_⟩
  show (j 0).val = ((j 0).val * 8 + (j 1).val / 64) / 8 ∧ (j 1).val / 64 = ((j 0).val * 8 + (j 1).val / 64) % 8 ∧ (j 2).val / 128 = (j 2).val / 128
  omega

/-- The list whole is the tiles' entries. -/
theorem iPts_pieces (d : Dev nD) (f : Buf (Elt F) (iLoc d)) :
    (iLoc d ↦{fullShare} f : sProp 𝕄) = bigSep Finset.univ fun p : Fin 2 × Fin 16 => iRowPts d (tp p) f := by
  rw [← pointsTo_biUnion Finset.univ (ℓ := iLoc d) (fun p : Fin 2 × Fin 16 => (iRowK (tp p)).view.set) iSet_disjoint, iSet_cover]; try rfl

/-- The result whole is the tiles' blocks. -/
theorem oPts_pieces (d : Dev nD) (f : Buf (Elt F) (oLoc d)) :
    (oLoc d ↦{fullShare} f : sProp 𝕄) = bigSep Finset.univ fun p : Fin 2 × Fin 16 => oRowPts d (tp p) f := by
  rw [← pointsTo_biUnion Finset.univ (ℓ := oLoc d) (fun p : Fin 2 × Fin 16 => (oRowK (tp p)).view.set) oSet_disjoint, oSet_cover]; try rfl

/-- The table whole is the tiles' shares. -/
theorem xPts_pieces (d : Dev nD) (f : Buf (Elt F) (xLoc d)) :
    (xLoc d ↦{fullShare} f : sProp 𝕄) = bigSep Finset.univ fun p : Fin 2 × Fin 16 => xShPts d (tp p) f := by
  rw [ShareLeaves.pointsTo_leaves Finset.univ f 5 fullShare, bigSep_univ_equiv (finProdFinEquiv : Fin 2 × Fin 16 ≃ Fin (2 ^ 5))]
  refine bigSep_congr fun p _ => ?_
  have e : (finProdFinEquiv : Fin 2 × Fin 16 ≃ Fin (2 ^ 5)) p = tileNo (tp p) := Fin.ext (by
    show p.2.val + 16 * p.1.val = 16 * p.1.val + p.2.val
    omega)
  rw [e]

/-- The three buffers whole are the thirty-two tiles' pieces, core by core. -/
theorem pieces (d : Dev nD) (o : Buf (Elt F) (oLoc d)) :
    (bigSep Finset.univ fun c : Fin ((K F).nCore 0) => bigSep Finset.univ fun i : Fin ((K F).nSub 0) => goes fi fx d (tc0 (F := F) c i) o)
      = iprop((iLoc d ↦{fullShare} fi d) ∗ (xLoc d ↦{fullShare} fx d) ∗ (oLoc d ↦{fullShare} o)) := by
  rw [iPts_pieces, xPts_pieces, oPts_pieces, ← bigSep_sep', ← bigSep_sep']
  exact (bigSep_univ_prod (fun p : Fin 2 × Fin 16 => goes fi fx d (tp p) o)).symm

end Cert.Proof.Vq

end
-- ==== Proof.Vq.Main.lean ====
/-
  @main on the TensorCore and the launch of the whole program. The host's reshapes are followed on a valuation of the
  device's buffers; the TensorCore call updates the four arrays it writes to their closed forms; the SparseCore call
  puts the gathered rows in its result. At the end every buffer is known, and every semaphore is at zero.
-/
module

public import proofs.«01_k».proof.Proof.Vq.TcFinal
public import proofs.«01_k».proof.Proof.Vq.ScCall
public import Idealize.ShloMosaic.Lib.SparseCore.Quiescent
public import Idealize.ShloMosaic.Lib.Pipeline.Frame

@[expose] public section

set_option maxRecDepth 16384

noncomputable section

namespace Cert.Proof.Vq

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable [∀ e, Nonempty (Elt F e)]
variable (m : (ℓ : Loc nD τ sig) → Buf (Elt F) ℓ) (ρ : Dev nD → PrngReg)

/-! ## The buffers' contents along @main -/

abbrev opA : HloOp τ sig (Elt F) := StableHlo.reshape main_arg0 main_v0 (rfl : (.f32 : EltTy) = .f32) shapeCasts_S2x512x768_S1024x768
abbrev opB : HloOp τ sig (Elt F) := StableHlo.reshape main_arg3 main_v1 (rfl : (.f32 : EltTy) = .f32) shapeCasts_S2x1024x128_S2048x128
abbrev opC : HloOp τ sig (Elt F) := StableHlo.reshape main_v2_2 main_v3 (rfl : (.i32 : EltTy) = .i32) shapeCasts_S16x128_S2048
abbrev opD : HloOp τ sig (Elt F) := StableHlo.reshape main_v2_0 main_v5 (rfl : (.f32 : EltTy) = .f32) shapeCasts_S2x1024x1024_S2x2x512x1024
abbrev opE : HloOp τ sig (Elt F) := StableHlo.reshape main_v2_1 main_v6 (rfl : (.f32 : EltTy) = .f32) shapeCasts_S2x1024x1024_S2x2x512x1024
abbrev opF : HloOp τ sig (Elt F) := StableHlo.reshape main_v2_3 main_v7 (rfl : (.f32 : EltTy) = .f32) shapeCasts_S1x1_S_

/-- The launch contents, as a valuation. -/
def W0 (d : Dev nD) : Valuation τ sig (Elt F) := fun b => m (d, b)
/-- When the TensorCore call starts. -/
def W1 (d : Dev nD) : Valuation τ sig (Elt F) := opB.result (opA.result (W0 m d))
/-- The same, by the TensorCore's references. -/
abbrev V1 (c : Dev nD) (b : Ref sig .tc) : Buf (Elt F) ((c : Thread nD τ).loc b) := W1 m c b
/-- When it ends. -/
def W2 (d : Dev nD) : Valuation τ sig (Elt F) :=
  upd (W1 m d) d (distG (V1 m) d) (encG (V1 m) d) (idxG (V1 m) d) (pplG (V1 m) d)
/-- When the SparseCore call starts. -/
def W3 (d : Dev nD) : Valuation τ sig (Elt F) := opC.result (W2 m d)
/-- The list of rows to gather. -/
def fi (d : Dev nD) : Buf (Elt F) (iLoc d) := W3 m d (main_v3 : DevRef τ sig)
/-- The table. -/
def fx (d : Dev nD) : Buf (Elt F) (xLoc d) := W3 m d (main_v1 : DevRef τ sig)
/-- The result's earlier contents. -/
def fo (d : Dev nD) : Buf (Elt F) (oLoc d) := W3 m d (main_v4 : DevRef τ sig)
/-- When the SparseCore call ends. -/
def W4 (d : Dev nD) : Valuation τ sig (Elt F) := Function.update (W3 m d) (main_v4 : DevRef τ sig) (gath (fi m d) (fx m d))
/-- When @main ends. -/
def W7 (d : Dev nD) : Valuation τ sig (Elt F) := opF.result (opE.result (opD.result (W4 m d)))

/-! ## The TensorCore call -/

/-- The ghost state of the staging cells of device `d`. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

theorem region_inner (W : Dev nD → Valuation τ sig (Elt F)) (d : Dev nD) (Φ : PUnit → sProp 𝕄) :
    iprop((iprop(boundary (T d) ∗ (reg W).post d) -∗ wp frame (wpE (D F) 𝒱 (T d) none) Set.univ (Prog.ret ⟨⟩) Φ)
        ∗ boundary (T d) ∗ (reg W).pre d ∗ levAts (K F).L (K F).lev ∗ ghost d)
      ⊢ wp frame (wpE (D F) 𝒱 (T d) none) Set.univ (.op (.customCall (Pipeline.entry 0) ()) .ret) Φ := by
  have h := Pipeline.RDat.RegionSeg.wp (pcfgs (F := F)) adm (rdats W) none cellOf_inj EP defs₀ 𝒱₀ (K F).L (K F).lev (reg W) d none
    (fun _ h => nomatch h) .ret Φ
  exact h

theorem region_lift (W : Dev nD → Valuation τ sig (Elt F)) (d : Dev nD) (Φ : PUnit → sProp 𝕄) :
    iprop((iprop(boundary (T d) ∗ (reg W).post d) -∗ wp frame (wpE (D F) 𝒱 (T d) none) Set.univ (Prog.ret ⟨⟩) Φ)
        ∗ boundary (T d) ∗ (reg W).pre d ∗ levAts (K F).L (K F).lev ∗ ghost d)
      ⊢ wp frame (wpE ((K F).defs (D F)) 𝒱 (T d) none) Set.univ (Prog.lift (.customCall (SparseCore.inner (Pipeline.entry 0)) ())) Φ :=
  (region_inner W d Φ).trans ((K F).wp_liftProg (D F) 𝒱 (T d) Set.univ none (.op (.customCall (Pipeline.entry 0) ()) .ret) Φ)

/-- The call inside @main, on the buffers at a valuation: the four arrays it writes end at their closed forms. -/
theorem region_step (W : Dev nD → Valuation τ sig (Elt F)) (d : Dev nD) (Φ : PUnit → sProp 𝕄) :
    iprop((iprop(boundary (T d) ∗ unscopedBufs d (fun b => upd (W d) d (distG (fun c b => W c b) d) (encG (fun c b => W c b) d) (idxG (fun c b => W c b) d) (pplG (fun c b => W c b) d) b) ∗ tcOwes d) -∗ Φ ⟨⟩)
        ∗ boundary (T d) ∗ (unscopedBufs d (fun b => W d b) ∗ tcOwes d) ∗ levAts (K F).L (K F).lev ∗ ghost d)
      ⊢ wp frame (wpE ((K F).defs (D F)) 𝒱 (T d) none) Set.univ (Prog.lift (.customCall (SparseCore.inner (Pipeline.entry 0)) ())) Φ := by
  iintro ⟨Hk, Hb, Hp, Hl, Hg⟩
  iapply (region_lift W d Φ)
  rw [show (reg W).post d = iprop((∃ G4 G5 G6 G7, ⌜Leaves4 W d G4 G5 G6 G7⌝ ∗ unscopedBufs d (fun b => upd (W d) d G4 G5 G6 G7 b)) ∗ tcOwes d) from rfl,
    show (reg W).pre d = iprop(unscopedBufs d (fun b => W d b) ∗ tcOwes d) from rfl, wp_ret]
  isplitl [Hk]
  swap
  · isplitl [Hb]; · iexact Hb
    isplitl [Hp]; · iexact Hp
    isplitl [Hl]; · iexact Hl
    iexact Hg
  iintro ⟨Hb, ⟨%G4, %G5, %G6, %G7, %hL, Hub⟩, HO⟩
  obtain ⟨h4, h5, h6, h7⟩ := hL
  have e4 := final4 _ d h4
  have e5 := final5 _ d h5
  have e6 := final6 _ d h6
  have e7 := final7 _ d h7
  subst e4 e5 e6 e7
  imodintro
  iapply Hk
  isplitl [Hb]; · iexact Hb
  isplitl [Hub]; · iexact Hub
  iexact HO

/-! ## What the core owes -/

/-- The TensorCore's state before the SparseCore call, but for what it owes. -/
def tcRest (d : Dev nD) : sProp 𝕄 :=
  iprop(atPos EH ((K F).doneCell d) 0 ∅ 0 ∗ reached EH ((K F).doneCell d) 0
    ∗ (bigSep Finset.univ fun c : Fin τ.nSC => reached EH ((K F).startCell d c) ((K F).sRank c 0))
    ∗ bigSep (SparseCore.Cfg.callsFrom 0) fun q => bigSep Finset.univ fun c : Fin ((K F).nCore q) =>
        iprop(dutyTok EH ((K F).startCell d ((K F).core q c)) ((K F).sRank ((K F).core q c) q.val) 0
          ∗ cred (tallyAt ((K F).doneCell d) (some ((inferInstance : SparseCore.Cfg.Blocks 1 1).last q)) 1)))

theorem tcSt_split (d : Dev nD) : ((K F).tcSt EH d 0 : sProp 𝕄) = iprop(tcOwes d ∗ tcRest d) := by
  have e : (iprop(∃ W, ⌜(K F).WBelow (T d) W (8 * 0)⌝ ∗ owes (T d) ((K F).Otc d 0) W) : sProp 𝕄) = tcOwes d := by
    have hp : ∀ W : Waits sig (HIx 1), ((K F).WBelow (N := 1) (T d) W (8 * 0)) ↔ ∀ p ∈ W, p.2 = none := by
      intro W
      constructor
      · intro h p hp
        have := h p hp
        cases hq : p.2 with
        | none => rfl
        | some q => rw [hq] at this; exact absurd this (by have := (K F).lev_some_pos (N := 1) (T d, p.1) q; omega)
      · intro h p hp
        rw [h p hp]; exact le_rfl
    simp only [hp]
  unfold SparseCore.Cfg.tcSt tcRest
  rw [← e]; rfl

/-! ## @main -/

theorem bufs_sub (x y : Ref sig .tc) (hx : x.isScoped = false) (hy : y.isScoped = false) :
    ({(x : DevRef τ sig), (y : DevRef τ sig)} : Finset (DevRef τ sig)) ⊆ Pipeline.ucRefs τ sig := by
  intro b hb
  rcases Finset.mem_insert.mp hb with rfl | hb
  · exact Finset.mem_filter.mpr ⟨StableHlo.devRef_mem_tcRefs x, by rw [Proc.isScoped_devRef]; simp [hx]⟩
  · rw [Finset.mem_singleton.mp hb]
    exact Finset.mem_filter.mpr ⟨StableHlo.devRef_mem_tcRefs y, by rw [Proc.isScoped_devRef]; simp [hy]⟩

/-- The three buffers of the SparseCore call. -/
abbrev scSet : Finset (DevRef τ sig) := {(main_v3 : DevRef τ sig), (main_v1 : DevRef τ sig), (main_v4 : DevRef τ sig)}

theorem scSet_sub : scSet ⊆ Pipeline.ucRefs τ sig := by decide

theorem held_scSet (d : Dev nD) (W : Valuation τ sig (Elt F)) :
    (StableHlo.held (T d) scSet W : sProp 𝕄)
      = iprop((iLoc d ↦{fullShare} W (main_v3 : DevRef τ sig)) ∗ (xLoc d ↦{fullShare} W (main_v1 : DevRef τ sig)) ∗ (oLoc d ↦{fullShare} W (main_v4 : DevRef τ sig))) := by
  unfold StableHlo.held
  rw [SparseCore.bigSep_insert' (by decide), SparseCore.bigSep_insert' (by decide), bigSep_singleton]

/-- One reshape of the host, on the buffers held. -/
theorem host_step (d : Dev nD) (op : HloOp τ sig (Elt F)) (hS : op.bufs ⊆ Pipeline.ucRefs τ sig) (hf : op.fresh = ∅) (W : Valuation τ sig (Elt F))
    (Φ : PUnit → sProp 𝕄) :
    iprop((boundary (T d) ∗ StableHlo.held (T d) (Pipeline.ucRefs τ sig) W)
        ∗ ((boundary (T d) ∗ StableHlo.held (T d) (Pipeline.ucRefs τ sig) (op.result W)) -∗ Φ ⟨⟩))
      ⊢ wp frame (wpE ((K F).defs (D F)) 𝒱 (T d) none) Set.univ (hlo rfl op fun _ => .ret ⟨⟩) Φ := by
  iintro ⟨H, Hk⟩
  iapply (StableHlo.wp_hlo_within 𝒱 (T d) none Set.univ hS (V := W) hf) $$ [H]
  · iexact H
  iintro H
  rw [wp_ret]
  imodintro
  iapply Hk; iexact H

abbrev FIN (d : Dev nD) : sProp 𝕄 := StableHlo.held (T d) (Pipeline.ucRefs τ sig) (W7 m d)

theorem held_split3 (d : Dev nD) (W : Valuation τ sig (Elt F)) :
    (StableHlo.held (T d) (Pipeline.ucRefs τ sig) W : sProp 𝕄)
      = iprop(((iLoc d ↦{fullShare} W (main_v3 : DevRef τ sig)) ∗ (xLoc d ↦{fullShare} W (main_v1 : DevRef τ sig)) ∗ (oLoc d ↦{fullShare} W (main_v4 : DevRef τ sig)))
        ∗ StableHlo.held (T d) (Pipeline.ucRefs τ sig \ scSet) W) :=
  (StableHlo.held_sub_split (T d) scSet_sub W).trans (congrArg (fun A : sProp 𝕄 => iprop(A ∗ StableHlo.held (T d) (Pipeline.ucRefs τ sig \ scSet) W)) (held_scSet d W))

theorem held_update (d : Dev nD) (W : Valuation τ sig (Elt F)) (g : Buf (Elt F) (oLoc d)) :
    (StableHlo.held (T d) (Pipeline.ucRefs τ sig) (Function.update W (main_v4 : DevRef τ sig) g) : sProp 𝕄)
      = iprop(((iLoc d ↦{fullShare} W (main_v3 : DevRef τ sig)) ∗ (xLoc d ↦{fullShare} W (main_v1 : DevRef τ sig)) ∗ (oLoc d ↦{fullShare} g))
        ∗ StableHlo.held (T d) (Pipeline.ucRefs τ sig \ scSet) W) := by
  rw [held_split3, Function.update_self, Function.update_of_ne (by decide), Function.update_of_ne (by decide)]
  have e : (StableHlo.held (T d) (Pipeline.ucRefs τ sig \ scSet) (Function.update W (main_v4 : DevRef τ sig) g) : sProp 𝕄)
      = StableHlo.held (T d) (Pipeline.ucRefs τ sig \ scSet) W := by
    refine StableHlo.held_congr (T d) fun b hb => ?_
    rw [Function.update_of_ne]
    rintro rfl
    exact (Finset.mem_sdiff.mp hb).2 (by decide)
  rw [e]

theorem held_W4 (d : Dev nD) :
    (StableHlo.held (T d) (Pipeline.ucRefs τ sig) (W4 m d) : sProp 𝕄)
      = iprop(((iLoc d ↦{fullShare} fi m d) ∗ (xLoc d ↦{fullShare} fx m d) ∗ (oLoc d ↦{fullShare} gath (fi m d) (fx m d)))
        ∗ StableHlo.held (T d) (Pipeline.ucRefs τ sig \ scSet) (W3 m d)) :=
  held_update d (W3 m d) (gath (fi m d) (fx m d))

theorem held_W3 (d : Dev nD) :
    (StableHlo.held (T d) (Pipeline.ucRefs τ sig) (W3 m d) : sProp 𝕄)
      = iprop(((iLoc d ↦{fullShare} fi m d) ∗ (xLoc d ↦{fullShare} fx m d) ∗ (oLoc d ↦{fullShare} fo m d))
        ∗ StableHlo.held (T d) (Pipeline.ucRefs τ sig \ scSet) (W3 m d)) :=
  held_split3 d (W3 m d)

theorem held_W0 (d : Dev nD) :
    (unscopedBufs d (fun b => m ((SparseCore.T d).loc b)) : sProp 𝕄) = StableHlo.held (T d) (Pipeline.ucRefs τ sig) (W0 m d) := by
  have h := Pipeline.unscopedBufs_held (Ix := HIx 1) (Name := ℕ) (U := UU) (Lvl := ℕ) d (W0 m d)
  exact h

theorem dn_eq (d : Dev nD) :
    (bigSep Finset.univ fun c : Fin ((K F).nCore 0) => (P (fi m) (fx m) (fo m)).dn 0 d c)
      = iprop((iLoc d ↦{fullShare} fi m d) ∗ (xLoc d ↦{fullShare} fx m d) ∗ (oLoc d ↦{fullShare} gath (fi m d) (fx m d))) :=
  pieces (fi m) (fx m) d (gath (fi m d) (fx m d))

set_option maxHeartbeats 1000000 in
/-- @main on device `d`'s TensorCore. -/
theorem hmain (κ : GSem nD τ sig → ℕ) (d : Dev nD) :
    iprop((K F).ctx EH (P (fi m) (fx m) (fo m)) κ ∗ (K F).tcSt EH d 0 ∗ (K F).tcRes m ρ d ∗ ghost d)
      ⊢ wp frame (wpE ((K F).defs (D F)) 𝒱 (T d) none) Set.univ (main d)
          fun _ => iprop((K F).tcSt EH d 1 ∗ FIN m d ∗ (K F).tcEnd d) := by
  unfold SparseCore.Cfg.tcRes SparseCore.Cfg.tcEnd
  rw [tcSt_split, held_W0]
  simp only [main, wp_bind, wp_pure]
  iintro ⟨#Hctx, ⟨HO, Hrest⟩, ⟨Hb, Hh, Hts, -⟩, Hg⟩
  iapply (host_step d opA (bufs_sub main_arg0 main_v0 rfl rfl) rfl (W0 m d))
  isplitl [Hb Hh]; · isplitl [Hb] <;> iassumption
  iintro ⟨Hb, Hh⟩
  iapply (host_step d opB (bufs_sub main_arg3 main_v1 rfl rfl) rfl (opA.result (W0 m d)))
  isplitl [Hb Hh]; · isplitl [Hb] <;> iassumption
  iintro ⟨Hb, Hh⟩
  rw [← W1]
  iapply (region_step (W1 m) d)
  isplitr [Hb Hh HO Hg]
  swap
  · isplitl [Hb]; · iexact Hb
    isplitl [Hh HO]
    · isplitl [Hh]
      · iapply (Entails.of_eq (Pipeline.unscopedBufs_held d (W1 m d)).symm); iexact Hh
      · iexact HO
    isplitr [Hg]
    · iapply ((K F).ctx_levAts κ); iexact Hctx
    iexact Hg
  iintro ⟨Hb, Hh', HO⟩
  rw [← W2]
  ihave Hh := (Entails.of_eq (Pipeline.unscopedBufs_held d (W2 m d))) $$ Hh'
  iapply (host_step d opC (bufs_sub main_v2_2 main_v3 rfl rfl) rfl (W2 m d))
  isplitl [Hb Hh]; · isplitl [Hb] <;> iassumption
  iintro ⟨Hb, Hh'⟩
  rw [← W3]
  ihave Hh := (Entails.of_eq (held_W3 m d)) $$ Hh'
  icases Hh with ⟨Hsc, Hh⟩
  iapply ((K F).wp_run (D F) 𝒱 (EH := EH) (P := P (fi m) (fx m) (fo m)) κ d 0)
  isplitr; · iexact Hctx
  isplitl [HO Hrest]
  · iapply (Entails.of_eq (tcSt_split d).symm); isplitl [HO] <;> iassumption
  isplitl [Hsc]
  · iapply (Entails.of_eq (pieces (fi m) (fx m) d (fo m d)).symm); iexact Hsc
  iintro ⟨Hst, Hdn⟩
  ihave Hsc := (Entails.of_eq (dn_eq m d)) $$ Hdn
  ihave Hh' := (Entails.of_eq (held_W4 m d).symm) $$ [Hsc Hh]
  · isplitl [Hsc] <;> iassumption
  iapply (host_step d opD (bufs_sub main_v2_0 main_v5 rfl rfl) rfl (W4 m d))
  isplitl [Hb Hh']; · isplitl [Hb] <;> iassumption
  iintro ⟨Hb, Hh⟩
  iapply (host_step d opE (bufs_sub main_v2_1 main_v6 rfl rfl) rfl (opD.result (W4 m d)))
  isplitl [Hb Hh]; · isplitl [Hb] <;> iassumption
  iintro ⟨Hb, Hh⟩
  iapply (host_step d opF (bufs_sub main_v2_3 main_v7 rfl rfl) rfl (opE.result (opD.result (W4 m d))))
  isplitl [Hb Hh]; · isplitl [Hb] <;> iassumption
  iintro ⟨Hb, Hh⟩
  rw [← W7]
  imodintro
  isplitl [Hst]; · iexact Hst
  isplitl [Hh]; · iexact Hh
  isplitl [Hb] <;> iassumption

/-- What the end says of the memory of device `d`. -/
def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp 𝕄) := by
  have h := pointsTo_read_all (Ix := HIx 1) (Name := ℕ) (U := UU) (Lvl := ℕ) (Pipeline.ucRefs τ sig)
    (fun b : DevRef τ sig => ((d, b) : Loc nD τ sig)) (fun b => W7 m d b) s'
  unfold FIN StableHlo.held
  iintro H
  ihave H' := h $$ H
  icases H' with ⟨%hq, -⟩
  ipureintro
  exact hq

/-! ## The launch -/

/-- The handshakes' and the staging cells' ghost state at the launch. -/
def u₀ : UU := (initOf (K F).hsCells (K F).hsToks,
  (initOf (Pipeline.cells (Pipeline.pin (pcfgs (F := F)) adm) cellOf_inj) (Pipeline.launchToks (Pipeline.pin (pcfgs (F := F)) adm) cellOf_inj), 1))

theorem ghost_emb (x : UB) : (BI.own (((Emb.inl : Emb UB (UB × Counters)).trans (embR : Emb (UB × Counters) (MM F))) x) : sProp 𝕄) = BI.own ((EP (F := F)) x) := rfl

theorem cells_one : (bigSep Finset.univ fun d : Dev nD => bigSep Finset.univ fun p : Fin 1 => Pipeline.cellsGhost (Pipeline.pin (pcfgs (F := F)) adm) EP p d : sProp 𝕄)
    = bigSep Finset.univ fun d : Dev nD => Pipeline.cellsGhost (Pipeline.pin (pcfgs (F := F)) adm) EP 0 d :=
  bigSep_congr fun d _ => bigSep_univ_of_subsingleton (0 : Fin 1)

theorem toks_one : (bigSep Finset.univ fun d : Dev nD => bigSep Finset.univ fun p : Fin 1 => Pipeline.toksInit (Pipeline.pin (pcfgs (F := F)) adm) EP p d : sProp 𝕄)
    = bigSep Finset.univ fun d : Dev nD => Pipeline.toksInit (Pipeline.pin (pcfgs (F := F)) adm) EP 0 d :=
  bigSep_congr fun d _ => bigSep_univ_of_subsingleton (0 : Fin 1)

theorem bigSep_nothing {I : Type} (s : Finset I) : (bigSep s fun _ => iprop(emp)) = (iprop(emp) : sProp 𝕄) := bigSep_emp_const s

theorem hu₀ (fi : (d : Dev nD) → Buf (Elt F) (iLoc d)) (fx : (d : Dev nD) → Buf (Elt F) (xLoc d)) (fo : (d : Dev nD) → Buf (Elt F) (oLoc d)) :
    (ownU (u₀ (F := F)) : sProp 𝕄)
      ⊢ |={Set.univ}=> iprop(BI.own (EH (initOf (K F).hsCells (K F).hsToks)) ∗ (bigSep Finset.univ fun d : Dev nD => ghost d)
        ∗ bigSep Finset.univ fun thr : Thread nD τ => bigSep Finset.univ fun q : Fin 1 => (P fi fx fo).x q thr) := by
  unfold u₀
  iintro Hu
  ihave H := (ownU_pair (initOf (K F).hsCells (K F).hsToks) _) $$ Hu
  icases H with ⟨HH, HB⟩
  ihave H2 := (own_pair_emb _ _ _) $$ HB
  icases H2 with ⟨HB0, -⟩
  ihave HB := (Entails.of_eq (ghost_emb _)) $$ HB0
  imod (Pipeline.fund_ghost (Pipeline.pin (pcfgs (F := F)) adm) EP cellOf_inj) $$ HB with ⟨Hg, Ht⟩
  imodintro
  isplitl [HH]; · iexact HH
  isplitl [Hg Ht]
  · rw [bigSep_sep']
    isplitl [Hg]
    · iapply (Entails.of_eq cells_one); iexact Hg
    · iapply (Entails.of_eq toks_one); iexact Ht
  rw [show (bigSep Finset.univ fun thr : Thread nD τ => bigSep Finset.univ fun q : Fin 1 => (P fi fx fo).x q thr) = bigSep Finset.univ fun _ => (iprop(emp) : sProp 𝕄) from
    bigSep_congr fun _ _ => bigSep_univ_of_subsingleton (0 : Fin 1), bigSep_nothing]
  iempintro

/-- What the whole run ends with: every buffer of every device at its closed form, every semaphore at zero. -/
def QC : PUnit × MemSt nD τ sig (Elt F) → Prop := fun r =>
  (∀ (d : Dev nD), ∀ b ∈ Pipeline.ucRefs τ sig, r.2.mem (d, b) = W7 m d b) ∧ r.2.sem = fun _ => 0

/-- The run of the whole program, the words of the list being rows of the table. -/
theorem run_main (hfi : ∀ (d : Dev nD) (j : S2048.Idx), (fi m d j).toNat < 2048) :
    θ_run (Cert.KernelIdeal.defs (F := F)) (Cert.KernelIdeal.threads (F := F)) ⟨m, fun _ => 0, ρ⟩ (QC m) :=
  SparseCore.Cfg.θ_run_sc_quiescent (K := K F) (D := D F) (𝒱 := 𝒱) (EH := EH) (P := P (fi m) (fx m) (fo m)) (A := ∅) sc_facts v₀
    (fun q hq => match q with | 0 => nomatch hq)
    (fun q _ => match q with | 0 => tileObl (fi m) (fx m) (fo m) hfi)
    (fun q _ => match q with | 0 => SparseCore.Cfg.VecSplit.of_plain (vecSplit (fi m) (fx m) (fo m)))
    m ρ main ghost (FIN m) (u₀ (F := F)) (sep_elim_left.trans (hu₀ (fi m) (fx m) (fo m))) (hmain m ρ) (fq m) (hfin m) (QC m) (fun _ h hz => ⟨h, hz⟩)

end Cert.Proof.Vq

end
-- ==== Proof.Vq.First.lean ====
/-
  The first index at which a row of extended reals is least, and the two ways the programs find it: as the least index
  among those whose entry equals the row's minimum, and as the fold of a body that carries a value and its index.
-/
module

public import proofs.«01_k».proof.Proof.Gen.ReferenceIdeal
public import Idealize.ShloMosaic.PureOps.Ideal.Laws

@[expose] public section

noncomputable section

namespace Cert.Proof.Vq

open Idealize.ShloMosaic

/-- `k` is the first index at which `d` is least. -/
def IsFirst (d : Fin 1024 → EReal) (k : Fin 1024) : Prop :=
  ∀ l, d k < d l ∨ (d k = d l ∧ k ≤ l)

/-- There is only one such index. -/
theorem IsFirst.unique {d : Fin 1024 → EReal} {k l : Fin 1024} (hk : IsFirst d k) (hl : IsFirst d l) : k = l := by
  rcases hk l with h | ⟨h, h'⟩ <;> rcases hl k with g | ⟨g, g'⟩
  · exact absurd h (not_lt.mpr g.le)
  · exact absurd h (by rw [g]; exact lt_irrefl _)
  · exact absurd g (by rw [h]; exact lt_irrefl _)
  · exact le_antisymm h' g'

/-- The word of an index below 1024, read as a signed number. -/
theorem toInt_word (k : Fin 1024) : (BitVec.ofNat 32 k.val).toInt = (k.val : Int) := by
  have := k.isLt
  have h : (BitVec.ofNat 32 k.val).toNat = k.val := by rw [BitVec.toNat_ofNat]; omega
  rw [BitVec.toInt_eq_toNat_of_lt (by omega), h]

/-- The word of an index below 1024, read as an unsigned number. -/
theorem toNat_word (k : Fin 1024) : (BitVec.ofNat 32 k.val).toNat = k.val := by
  have := k.isLt
  rw [BitVec.toNat_ofNat]; omega

/-- Words of different indices differ. -/
theorem word_inj {k l : Fin 1024} (h : BitVec.ofNat 32 k.val = BitVec.ofNat 32 l.val) : k = l := by
  have := congrArg BitVec.toNat h
  rw [toNat_word, toNat_word] at this
  exact Fin.ext this

/-- A fold of the signed minimum is one of the values folded, and no greater than any of them. -/
theorem fold_minsi {ι : Type} [DecidableEq ι] (s : Finset ι) (f : ι → BitVec 32) (a : BitVec 32) :
    (s.fold IntOp.minsi a f = a ∨ ∃ i ∈ s, s.fold IntOp.minsi a f = f i)
      ∧ (s.fold IntOp.minsi a f).toInt ≤ a.toInt ∧ ∀ i ∈ s, (s.fold IntOp.minsi a f).toInt ≤ (f i).toInt := by
  induction s using Finset.induction with
  | empty => simp
  | insert i s hi ih =>
    obtain ⟨h1, h2, h3⟩ := ih
    rw [Finset.fold_insert hi]
    generalize s.fold IntOp.minsi a f = r at *
    by_cases hc : (f i).toInt < r.toInt
    · have : IntOp.minsi (f i) r = f i := by simp [IntOp.minsi, BitVec.slt, hc]
      rw [this]
      refine ⟨Or.inr ⟨i, Finset.mem_insert_self _ _, rfl⟩, by omega, fun j hj => ?_⟩
      rcases Finset.mem_insert.mp hj with rfl | hj
      · exact le_rfl
      · have := h3 j hj; omega
    · have : IntOp.minsi (f i) r = r := by simp [IntOp.minsi, BitVec.slt, hc]
      rw [this]
      refine ⟨?_, h2, fun j hj => ?_⟩
      · rcases h1 with h1 | ⟨j, hj, h1⟩
        · exact Or.inl h1
        · exact Or.inr ⟨j, Finset.mem_insert_of_mem hj, h1⟩
      · rcases Finset.mem_insert.mp hj with rfl | hj
        · omega
        · exact h3 j hj

/-- A fold of the minimum from the top over a row is one of the row's entries, and no greater than any. -/
theorem fold_min_row (d : Fin 1024 → EReal) :
    (∃ k, Finset.univ.fold min ⊤ d = d k) ∧ ∀ k, Finset.univ.fold min ⊤ d ≤ d k := by
  have h : Finset.univ.fold min ⊤ d = Finset.univ.inf d := rfl
  rw [h]
  obtain ⟨k, -, hk⟩ := Finset.exists_mem_eq_inf Finset.univ ⟨(0 : Fin 1024), Finset.mem_univ _⟩ d
  exact ⟨⟨k, hk⟩, fun l => Finset.inf_le (Finset.mem_univ l)⟩

/-- The least of the indices whose entry is the row's minimum is the first index at which the row is least. -/
theorem first_of_fold (d : Fin 1024 → EReal) (g : Fin 1024 → BitVec 32)
    (hg : ∀ k, g k = if d k = Finset.univ.fold min ⊤ d then BitVec.ofNat 32 k.val else 1073741824#32) :
    ∃ k, IsFirst d k ∧ Finset.univ.fold IntOp.minsi 2147483647#32 g = BitVec.ofNat 32 k.val := by
  obtain ⟨⟨k0, hk0⟩, hle⟩ := fold_min_row d
  obtain ⟨h1, h2, h3⟩ := fold_minsi Finset.univ g 2147483647#32
  generalize Finset.univ.fold min ⊤ d = m at *
  generalize Finset.univ.fold IntOp.minsi 2147483647#32 g = r at *
  have hb : r.toInt ≤ k0.val := by
    have := h3 k0 (Finset.mem_univ _)
    rw [hg, if_pos hk0.symm, toInt_word] at this
    exact this
  have hk0' := k0.isLt
  rcases h1 with h1 | ⟨k, -, h1⟩
  · rw [h1] at hb
    have : (2147483647#32 : BitVec 32).toInt = 2147483647 := by decide
    omega
  · rw [hg] at h1
    by_cases hk : d k = m
    · rw [if_pos hk] at h1
      refine ⟨k, fun l => ?_, h1⟩
      rcases (hk ▸ hle l : d k ≤ d l).lt_or_eq with h | h
      · exact Or.inl h
      · refine Or.inr ⟨h, ?_⟩
        have := h3 l (Finset.mem_univ _)
        rw [hg, if_pos (h.symm.trans hk), toInt_word, h1, toInt_word] at this
        exact Fin.le_def.mpr (by omega)
    · rw [if_neg hk] at h1
      rw [h1] at hb
      have : (1073741824#32 : BitVec 32).toInt = 1073741824 := by decide
      omega

/-- The argmin body keeps the pair with the lesser value or, on equal values, the lesser index. -/
theorem reducer_lex (a b : EReal × BitVec 32) :
    (Cert.ReferenceIdeal.reducer_argmin_f32_i32 (F := Ideal) a b = a
        ∧ (a.1 < b.1 ∨ (a.1 = b.1 ∧ a.2.toInt ≤ b.2.toInt)))
      ∨ (Cert.ReferenceIdeal.reducer_argmin_f32_i32 (F := Ideal) a b = b
        ∧ (b.1 < a.1 ∨ (b.1 = a.1 ∧ b.2.toInt ≤ a.2.toInt))) := by
  obtain ⟨a1, a2⟩ := a
  obtain ⟨b1, b2⟩ := b
  rcases lt_trichotomy a1 b1 with h | h | h
  · left
    simp [Cert.ReferenceIdeal.reducer_argmin_f32_i32, Ideal.cmpf_def, Ideal.cmp, h, h.ne, IntOp.ori, IntOp.andi, Scalar.select]
  · subst h
    by_cases hc : a2.toInt < b2.toInt
    · left
      simp [Cert.ReferenceIdeal.reducer_argmin_f32_i32, Ideal.cmpf_def, Ideal.cmp, IntOp.ori, IntOp.andi, Scalar.select, IntOp.cmpi, BitVec.slt, hc, hc.le]
    · right
      simp [Cert.ReferenceIdeal.reducer_argmin_f32_i32, Ideal.cmpf_def, Ideal.cmp, IntOp.ori, IntOp.andi, Scalar.select, IntOp.cmpi, BitVec.slt, hc, not_lt.mp hc]
  · right
    simp [Cert.ReferenceIdeal.reducer_argmin_f32_i32, Ideal.cmpf_def, Ideal.cmp, h, h.ne', not_lt.mpr h.le, IntOp.ori, IntOp.andi, Scalar.select]

/-- The fold of the argmin body over a list of pairs is one of them, or the pair it starts from, and comes before or with
    each of them in the order by value and then by index. -/
theorem foldl_lex (L : List (EReal × BitVec 32)) (a : EReal × BitVec 32) :
    let r := L.foldl (Cert.ReferenceIdeal.reducer_argmin_f32_i32 (F := Ideal)) a
    (r = a ∨ r ∈ L) ∧ (r.1 < a.1 ∨ (r.1 = a.1 ∧ r.2.toInt ≤ a.2.toInt))
      ∧ ∀ p ∈ L, r.1 < p.1 ∨ (r.1 = p.1 ∧ r.2.toInt ≤ p.2.toInt) := by
  induction L generalizing a with
  | nil => exact ⟨Or.inl rfl, Or.inr ⟨rfl, le_rfl⟩, fun p hp => absurd hp (List.not_mem_nil)⟩
  | cons p L ih =>
    simp only [List.foldl_cons]
    have hr := ih (Cert.ReferenceIdeal.reducer_argmin_f32_i32 (F := Ideal) a p)
    simp only at hr
    generalize L.foldl (Cert.ReferenceIdeal.reducer_argmin_f32_i32 (F := Ideal)) (Cert.ReferenceIdeal.reducer_argmin_f32_i32 (F := Ideal) a p) = r at *
    obtain ⟨h1, h2, h3⟩ := hr
    have tr : ∀ x y z : EReal × BitVec 32, (x.1 < y.1 ∨ (x.1 = y.1 ∧ x.2.toInt ≤ y.2.toInt)) →
        (y.1 < z.1 ∨ (y.1 = z.1 ∧ y.2.toInt ≤ z.2.toInt)) → (x.1 < z.1 ∨ (x.1 = z.1 ∧ x.2.toInt ≤ z.2.toInt)) := by
      intro x y z hxy hyz
      rcases hxy with hxy | ⟨hxy, hxy'⟩ <;> rcases hyz with hyz | ⟨hyz, hyz'⟩
      · exact Or.inl (hxy.trans hyz)
      · exact Or.inl (hyz ▸ hxy)
      · exact Or.inl (hxy.symm ▸ hyz)
      · exact Or.inr ⟨hxy.trans hyz, hxy'.trans hyz'⟩
    rcases reducer_lex a p with ⟨he, hl⟩ | ⟨he, hl⟩ <;> rw [he] at h1 h2
    · refine ⟨h1.imp id (List.mem_cons_of_mem _), h2, fun q hq => ?_⟩
      rcases List.mem_cons.mp hq with rfl | hq
      · exact tr _ _ _ h2 hl
      · exact h3 q hq
    · refine ⟨Or.inr (h1.elim (fun h => h ▸ List.mem_cons_self) (List.mem_cons_of_mem _)), tr _ _ _ h2 hl, fun q hq => ?_⟩
      rcases List.mem_cons.mp hq with rfl | hq
      · exact h2
      · exact h3 q hq

/-- The fold of the argmin body from (⊤, 0) over the pairs (entry, index) of a row finds the first index at which the
    row is least, in whatever order the list has them. -/
theorem first_of_foldl (d : Fin 1024 → EReal) (L : List (EReal × BitVec 32))
    (hL : ∀ p, p ∈ L ↔ ∃ k : Fin 1024, p = (d k, BitVec.ofNat 32 k.val)) :
    ∃ k, IsFirst d k ∧ (L.foldl (Cert.ReferenceIdeal.reducer_argmin_f32_i32 (F := Ideal)) (⊤, 0#32)).2 = BitVec.ofNat 32 k.val := by
  have h := foldl_lex L (⊤, 0#32)
  simp only at h
  generalize L.foldl (Cert.ReferenceIdeal.reducer_argmin_f32_i32 (F := Ideal)) (⊤, 0#32) = r at *
  obtain ⟨h1, -, h3⟩ := h
  have h3' : ∀ l : Fin 1024, r.1 < d l ∨ (r.1 = d l ∧ r.2.toInt ≤ (l.val : Int)) := fun l => by
    have := h3 _ ((hL _).mpr ⟨l, rfl⟩)
    rwa [toInt_word] at this
  rcases h1 with h1 | h1
  · refine ⟨0, fun l => ?_, by rw [h1]; rfl⟩
    have top : ∀ l : Fin 1024, d l = ⊤ := fun l => by
      rcases h3' l with h | ⟨h, -⟩
      · rw [h1] at h; exact absurd h not_top_lt
      · rw [h1] at h; exact h.symm
    exact Or.inr ⟨(top 0).trans (top l).symm, Fin.zero_le _⟩
  · obtain ⟨k, hk⟩ := (hL r).mp h1
    refine ⟨k, fun l => ?_, by rw [hk]⟩
    have := h3' l
    rw [hk, toInt_word] at this
    exact this.imp id fun ⟨a, b⟩ => ⟨a, Fin.le_def.mpr (by omega)⟩

end Cert.Proof.Vq

end
-- ==== Proof.Vq.Block.lean ====
/-
  One grid point of the TensorCore call over the extended reals, entry by entry: the projection of a row, the expanded
  squared distances, the chosen index, the one-hot rows, the counts and the perplexity.
-/
module

public import proofs.«01_k».proof.Proof.Vq.TcValues
public import proofs.«01_k».proof.Proof.Vq.First
public import Idealize.ShloMosaic.Lib.Pointwise

@[expose] public section

set_option maxRecDepth 16384

noncomputable section

namespace Cert.Proof.Vq

open Cert.KernelIdeal Cert.KernelIdeal.Gen
open Idealize.ShloMosaic

/-! ## Reading the pieces -/

/-- A list of pieces at an index of its newest piece. -/
theorem canon_hit {sh : Shape} (off size : Fin sh.rank → ℕ) (inb) (p : (Rect.unit off size inb).shape.Idx → EReal)
    (L : List (View.Piece (Elt Ideal) sh .f32)) (j : sh.Idx) (y : (Rect.unit off size inb).shape.Idx)
    (h : ∀ a, (j a).val = off a + (y a).val) :
    View.canon ((⟨Rect.unit off size inb, p⟩ : View.Piece (Elt Ideal) sh .f32) :: L) j = p y := by
  have e : j = (Rect.unit off size inb).emb y := by
    funext a
    refine Fin.ext ((h a).trans ?_)
    show _ = off a + 1 * (y a).val
    omega
  rw [e]
  exact View.canon_cons_emb _ p L y

/-- A list of pieces at an index outside its newest piece. -/
theorem canon_miss {sh : Shape} (off size : Fin sh.rank → ℕ) (inb) (p : (Rect.unit off size inb).shape.Idx → EReal)
    (L : List (View.Piece (Elt Ideal) sh .f32)) (j : sh.Idx) (a : Fin sh.rank) (h : ¬ (off a ≤ (j a).val ∧ (j a).val < off a + size a)) :
    View.canon ((⟨Rect.unit off size inb, p⟩ : View.Piece (Elt Ideal) sh .f32) :: L) j = View.canon L j := by
  have hm : j ∉ (Rect.unit off size inb).set := fun hm => h (Rect.mem_set_unit.mp hm a)
  exact View.canon_cons_of_not_mem (⟨Rect.unit off size inb, p⟩ : View.Piece (Elt Ideal) sh .f32) L hm

theorem slab_hit (off : Fin 3 → ℕ) (inb) (p : Vec Ideal S1x256x1024 .f32) (L : List (View.Piece (Elt Ideal) S2x256x1024 .f32))
    (j : S2x256x1024.Idx) (y : S1x256x1024.Idx) (h0 : (j 0).val = off 0 + (y 0).val) (h1 : (j 1).val = off 1 + (y 1).val)
    (h2 : (j 2).val = off 2 + (y 2).val) :
    View.canon ((⟨Rect.unit (s := S2x256x1024) off S1x256x1024.size inb, p⟩ : View.Piece (Elt Ideal) S2x256x1024 .f32) :: L) j = p y :=
  canon_hit (sh := S2x256x1024) off S1x256x1024.size inb p L j y fun a => match a with
    | ⟨0, _⟩ => h0
    | ⟨1, _⟩ => h1
    | ⟨2, _⟩ => h2

theorem row_hit (off : Fin 2 → ℕ) (inb) (p : Vec Ideal S1x1024 .f32) (L : List (View.Piece (Elt Ideal) S2x1024 .f32))
    (j : S2x1024.Idx) (y : S1x1024.Idx) (h0 : (j 0).val = off 0 + (y 0).val) (h1 : (j 1).val = off 1 + (y 1).val) :
    View.canon ((⟨Rect.unit (s := S2x1024) off S1x1024.size inb, p⟩ : View.Piece (Elt Ideal) S2x1024 .f32) :: L) j = p y :=
  canon_hit (sh := S2x1024) off S1x1024.size inb p L j y fun a => match a with
    | ⟨0, _⟩ => h0
    | ⟨1, _⟩ => h1

/-- Two slabs laid out one after the other, at an index. -/
theorem slabs_at (p q : Vec Ideal S1x256x1024 .f32) (g : Fin 2) (r : Fin 256) (k : Fin 1024) :
    View.canon ([⟨Rect.unit (s := S2x256x1024) ![1, 0, 0] S1x256x1024.size inb_S2x256x1024_S1x256x1024_1_0_0, p⟩,
      ⟨Rect.unit (s := S2x256x1024) ![0, 0, 0] S1x256x1024.size inb_S2x256x1024_S1x256x1024_0_0_0, q⟩] : List (View.Piece (Elt Ideal) S2x256x1024 .f32)) (ix3 g r k)
      = if g = 0 then q (ix3 0 r k) else p (ix3 0 r k) := by
  have hg : g = 0 ∨ g = 1 := by omega
  rcases hg with rfl | rfl
  · rw [if_pos rfl]
    refine (canon_miss (sh := S2x256x1024) ![1, 0, 0] S1x256x1024.size _ p _ (ix3 0 r k) (0 : Fin 3) ?_).trans
      (slab_hit ![0, 0, 0] _ q _ (ix3 0 r k) (ix3 0 r k) ?_ ?_ ?_)
    · exact fun h => absurd h.1 (show ¬ (1 : ℕ) ≤ 0 by decide)
    · rfl
    · exact (Nat.zero_add _).symm
    · exact (Nat.zero_add _).symm
  · rw [if_neg (by decide)]
    refine slab_hit ![1, 0, 0] _ p _ (ix3 1 r k) (ix3 0 r k) ?_ ?_ ?_
    · rfl
    · exact (Nat.zero_add _).symm
    · exact (Nat.zero_add _).symm

/-- Two rows laid out one after the other, at an index. -/
theorem rows2_at (p q : Vec Ideal S1x1024 .f32) (g : Fin 2) (k : Fin 1024) :
    View.canon ([⟨Rect.unit (s := S2x1024) ![1, 0] S1x1024.size inb_S2x1024_S1x1024_1_0, p⟩,
      ⟨Rect.unit (s := S2x1024) ![0, 0] S1x1024.size inb_S2x1024_S1x1024_0_0, q⟩] : List (View.Piece (Elt Ideal) S2x1024 .f32)) (ix2 g k)
      = if g = 0 then q (ix2 0 k) else p (ix2 0 k) := by
  have hg : g = 0 ∨ g = 1 := by omega
  rcases hg with rfl | rfl
  · rw [if_pos rfl]
    refine (canon_miss (sh := S2x1024) ![1, 0] S1x1024.size _ p _ (ix2 0 k) (0 : Fin 2) ?_).trans
      (row_hit ![0, 0] _ q _ (ix2 0 k) (ix2 0 k) ?_ ?_)
    · exact fun h => absurd h.1 (show ¬ (1 : ℕ) ≤ 0 by decide)
    · rfl
    · exact (Nat.zero_add _).symm
  · rw [if_neg (by decide)]
    refine row_hit ![1, 0] _ p _ (ix2 1 k) (ix2 0 k) ?_ ?_
    · rfl
    · exact (Nat.zero_add _).symm

/-- The codes of the first group, as loaded. -/
theorem cvA_at (x3 : Vec Ideal S2x1024x128 .f32) (k : Fin 1024) (x : Fin 128) : cvA x3 (ix3 0 k x) = x3 (ix3 0 k x) := by
  unfold cvA
  refine congrArg x3 (funext fun a => Fin.ext ?_)
  fin_cases a
  · rfl
  · show 0 + 1 * k.val = k.val; omega
  · show 0 + 1 * x.val = x.val; omega

/-- The codes of the second group, as loaded. -/
theorem cvB_at (x3 : Vec Ideal S2x1024x128 .f32) (k : Fin 1024) (x : Fin 128) : cvB x3 (ix3 0 k x) = x3 (ix3 1 k x) := by
  unfold cvB
  refine congrArg x3 (funext fun a => Fin.ext ?_)
  fin_cases a
  · rfl
  · show 0 + 1 * k.val = k.val; omega
  · show 0 + 1 * x.val = x.val; omega

/-- The first row of the counts. -/
theorem cntA_at (cn : Vec Ideal S2x1024 .f32) (k : Fin 1024) : cntA cn (ix2 0 k) = cn (ix2 0 k) := by
  unfold cntA
  refine congrArg cn (funext fun a => Fin.ext ?_)
  fin_cases a
  · rfl
  · show 0 + 1 * k.val = k.val; omega

/-- The second row of the counts. -/
theorem cntB_at (cn : Vec Ideal S2x1024 .f32) (k : Fin 1024) : cntB cn (ix2 0 k) = cn (ix2 1 k) := by
  unfold cntB
  refine congrArg cn (funext fun a => Fin.ext ?_)
  fin_cases a
  · rfl
  · show 0 + 1 * k.val = k.val; omega

/-! ## The distances -/

/-- Column `x` of group `g` among the 256 columns of the projection. -/
def gcol (g : Fin 2) (x : Fin 128) : Fin 256 := ⟨g.val * 128 + x.val, by omega⟩

/-- The squared distance of the group's part of `hv` to its code `k`, as the kernel expands it. -/
def expD (hv : Fin 256 → EReal) (cv : Vec Ideal S2x1024x128 .f32) (g : Fin 2) (k : Fin 1024) : EReal :=
  (∑ x : Fin 128, hv (gcol g x) * hv (gcol g x))
    - Ideal.ofBits .f32 0x40000000#32 * ∑ x : Fin 128, hv (gcol g x) * cv (ix3 g k x)
    + ∑ x : Fin 128, cv (ix3 g k x) * cv (ix3 g k x)

variable (x0 : Vec Ideal S256x768 .f32) (x1 : Vec Ideal S768x256 .f32) (x2 : Vec Ideal S256 .f32) (x3 : Vec Ideal S2x1024x128 .f32)

/-- Row `r` of the projection. -/
def hidB (r : Fin 256) (c : Fin 256) : EReal := (∑ x : Fin 768, x0 (ix2 r x) * x1 (ix2 x c)) + x2 (ix1 c)

theorem pay2_at (r : Fin 256) (c : Fin 256) : k0_pay2 x0 x1 x2 (ix2 r c) = hidB x0 x1 x2 r c := by
  unfold k0_pay2 hidB
  pointwise

theorem distA_at (r : Fin 256) (k : Fin 1024) : k0_pay4 x0 x1 x2 (cvA x3) (ix2 r k) = expD (hidB x0 x1 x2 r) x3 0 k := by
  unfold k0_pay4 expD
  pointwise [pay2_at, cvA_at]
  simp only [gcol, Fin.val_zero, Nat.zero_mul, Nat.zero_add]

theorem distB_at (r : Fin 256) (k : Fin 1024) : k0_pay15 (lenB x3) (partB x0 x1 x2 x3) (ix2 r k) = expD (hidB x0 x1 x2 r) x3 1 k := by
  unfold k0_pay15 lenB partB k0_pay13 k0_pay14 k0_pay12 expD
  pointwise [pay2_at, cvB_at]
  simp only [gcol, Fin.val_one, Nat.one_mul, Nat.add_comm]

theorem distW_at (g : Fin 2) (r : Fin 256) (k : Fin 1024) : distW x0 x1 x2 x3 (ix3 g r k) = expD (hidB x0 x1 x2 r) x3 g k := by
  unfold distW
  rw [slabs_at]
  have hg : g = 0 ∨ g = 1 := by omega
  rcases hg with rfl | rfl
  · rw [if_pos rfl, ← distA_at]; unfold k0_pay5; pointwise
  · rw [if_neg (by decide), ← distB_at]; unfold k0_pay16; pointwise

/-! ## The index -/

/-- The word of the chosen index of row `r` in group `g`. -/
def wordW (g : Fin 2) (r : Fin 256) : BitVec 32 :=
  if g = 0 then k0_pay7 (candA x0 x1 x2 x3) (ix1 r) else k0_pay17 colV (lenB x3) (partB x0 x1 x2 x3) (ix1 r)

theorem ofBits_top : Ideal.ofBits .f32 0x7F800000#32 = (⊤ : EReal) := by simp [Ideal.ofBits, Ideal.ieee]

theorem colV_at (r : Fin 256) (k : Fin 1024) : colV (ix2 r k) = BitVec.ofNat 32 k.val := by
  unfold colV; pointwise

theorem candA_at (r : Fin 256) (k : Fin 1024) : candA x0 x1 x2 x3 (ix2 r k)
    = if expD (hidB x0 x1 x2 r) x3 0 k = Finset.univ.fold min ⊤ (expD (hidB x0 x1 x2 r) x3 0) then BitVec.ofNat 32 k.val else 1073741824#32 := by
  unfold candA k0_pay6
  pointwise [distA_at, ofBits_top]

theorem word_first (g : Fin 2) (r : Fin 256) :
    ∃ k, IsFirst (expD (hidB x0 x1 x2 r) x3 g) k ∧ wordW x0 x1 x2 x3 g r = BitVec.ofNat 32 k.val := by
  have hg : g = 0 ∨ g = 1 := by omega
  rcases hg with rfl | rfl
  · obtain ⟨k, hk, e⟩ := first_of_fold _ (fun k => candA x0 x1 x2 x3 (ix2 r k)) (fun k => candA_at x0 x1 x2 x3 r k)
    refine ⟨k, hk, ?_⟩
    rw [← e]
    unfold wordW
    rw [if_pos rfl]
    unfold k0_pay7
    pointwise
  · obtain ⟨k, hk, e⟩ := first_of_fold (expD (hidB x0 x1 x2 r) x3 1) (fun k => if expD (hidB x0 x1 x2 r) x3 1 k = Finset.univ.fold min ⊤ (expD (hidB x0 x1 x2 r) x3 1) then BitVec.ofNat 32 k.val else 1073741824#32) (fun k => rfl)
    refine ⟨k, hk, ?_⟩
    rw [← e]
    unfold wordW
    rw [if_neg (by decide)]
    unfold k0_pay17
    pointwise [distB_at, colV_at, ofBits_top]

/-- The words stored for the first group. -/
theorem idxA_at (a : Fin 2) (b : Fin 128) : k0_pay8 (candA x0 x1 x2 x3) (ix2 a b) = wordW x0 x1 x2 x3 0 ⟨a.val * 128 + b.val, by omega⟩ := by
  unfold k0_pay8 wordW
  pointwise
  exact BitVec.add_zero _

/-- The words stored for the second group: 1024 further on. -/
theorem idxB_at (a : Fin 2) (b : Fin 128) : k0_pay18 colV (lenB x3) (partB x0 x1 x2 x3) (ix2 a b)
    = wordW x0 x1 x2 x3 1 ⟨a.val * 128 + b.val, by omega⟩ + 1024#32 := by
  unfold k0_pay18 wordW
  pointwise
  rfl

/-! ## The one-hot rows, the counts and the perplexity -/

/-- One where the column is the chosen index, zero elsewhere. -/
def hotE (w : BitVec 32) (k : Fin 1024) : EReal := if BitVec.ofNat 32 k.val = w then 1 else 0

theorem sitofp_bit (b : Bool) : (FloatOps.sitofp (F := Ideal) .f32 (BitVec.setWidth 32 (BitVec.ofBool b)) : EReal) = if b then 1 else 0 := by
  cases b
  · show ((((BitVec.setWidth 32 (BitVec.ofBool false)).toInt : ℝ)) : EReal) = _
    simp
  · show ((((BitVec.setWidth 32 (BitVec.ofBool true)).toInt : ℝ)) : EReal) = _
    have : (BitVec.setWidth 32 (BitVec.ofBool true)).toInt = 1 := by decide
    rw [this]; simp

theorem hotA_at (r : Fin 256) (k : Fin 1024) : k0_pay9 (F := Ideal) colV (candA x0 x1 x2 x3) (ix2 r k) = hotE (wordW x0 x1 x2 x3 0 r) k := by
  unfold k0_pay9 hotE wordW
  pointwise [colV_at]
  exact (sitofp_bit _).trans (by simp)

theorem hotB_at (r : Fin 256) (k : Fin 1024) : k0_pay19 (F := Ideal) colV (lenB x3) (partB x0 x1 x2 x3) (ix2 r k) = hotE (wordW x0 x1 x2 x3 1 r) k := by
  unfold k0_pay19 hotE wordW
  pointwise [colV_at]
  exact (sitofp_bit _).trans (by simp)

theorem encW_at (g : Fin 2) (r : Fin 256) (k : Fin 1024) : encW x0 x1 x2 x3 (ix3 g r k) = hotE (wordW x0 x1 x2 x3 g r) k := by
  unfold encW
  rw [slabs_at]
  have hg : g = 0 ∨ g = 1 := by omega
  rcases hg with rfl | rfl
  · rw [if_pos rfl, ← hotA_at]; unfold k0_pay10; pointwise
  · rw [if_neg (by decide), ← hotB_at]; unfold k0_pay20; pointwise

theorem cntW_at (cn : Vec Ideal S2x1024 .f32) (g : Fin 2) (k : Fin 1024) :
    cntW x0 x1 x2 x3 cn (ix2 g k) = cn (ix2 g k) + ∑ r : Fin 256, hotE (wordW x0 x1 x2 x3 g r) k := by
  unfold cntW
  rw [rows2_at]
  have hg : g = 0 ∨ g = 1 := by omega
  rcases hg with rfl | rfl
  · rw [if_pos rfl]; unfold k0_pay11; pointwise [hotA_at, cntA_at]
  · rw [if_neg (by decide)]; unfold k0_pay21; pointwise [hotB_at, cntB_at]

/-- A count over the number of positions, held between 1e-10 and 1. -/
def clipK (x : EReal) : EReal := min 1 (max (Ideal.ofBits .f32 0x2EDBE6FF#32) (x * Ideal.ofBits .f32 0x3A800000#32))

/-- A term of the entropy. -/
def entT (p : EReal) : EReal := p * Ideal.log (p + Ideal.ofBits .f32 0x2EDBE6FF#32)

theorem pay3_at (g : Fin 2) (k : Fin 1024) : k0_pay3 (F := Ideal) (ix2 g k) = 0 := by
  unfold k0_pay3; pointwise

theorem pplW_at (cn : Vec Ideal S2x1024 .f32) : pplW cn (ix2 0 0)
    = Ideal.ofBits .f32 0x3F000000#32 * (Ideal.exp (0 - ∑ k : Fin 1024, entT (clipK (cn (ix2 0 k)))) + Ideal.exp (0 - ∑ k : Fin 1024, entT (clipK (cn (ix2 1 k))))) := by
  have e : (ix2 0 0 : S1x1.Idx) = (Rect.unit (s := S1x1) ![0, 0] S1x1.size inb_S1x1_S1x1_0_0).emb (ix2 0 0 : S1x1.Idx) := by
    funext a; fin_cases a <;> rfl
  have h : pplW cn (ix2 0 0) = k0_pay1 (cntA cn) (cntB cn) (ix2 0 0) := by
    unfold pplW
    conv_lhs => rw [e]
    exact View.canon_cons_emb _ _ [] _
  rw [h]
  unfold k0_pay1 entT clipK
  pointwise [cntA_at, cntB_at]
  rfl

end Cert.Proof.Vq

end
-- ==== Proof.Vq.Spec.lean ====
/-
  The quantiser in closed form over the extended reals, the common ground of the two programs: the squared distances, the
  first nearest code of each position, the one-hot rows, the chosen codes and the perplexity. Both programs' results are
  proved equal to these (the kernel's under finite arguments, where the expanded square is the square).
-/
module

public import proofs.«01_k».proof.Proof.Vq.Block

@[expose] public section

noncomputable section

namespace Cert.Proof.Vq

open Cert.KernelIdeal Cert.KernelIdeal.Gen
open Idealize.ShloMosaic

/-! ## The first nearest code -/

theorem exists_first (d : Fin 1024 → EReal) : ∃ k, IsFirst d k := by
  obtain ⟨k, hk, -⟩ := first_of_fold d (fun k => if d k = Finset.univ.fold min ⊤ d then BitVec.ofNat 32 k.val else 1073741824#32) (fun k => rfl)
  exact ⟨k, hk⟩

/-- The first index at which a row is least. -/
def near (d : Fin 1024 → EReal) : Fin 1024 := (exists_first d).choose

theorem near_eq {d : Fin 1024 → EReal} {k : Fin 1024} (h : IsFirst d k) : k = near d := h.unique (exists_first d).choose_spec

/-- One at `i`, zero elsewhere. -/
def oneAt (i k : Fin 1024) : EReal := if k = i then 1 else 0

theorem hotE_word (i k : Fin 1024) : hotE (BitVec.ofNat 32 i.val) k = oneAt i k := by
  unfold hotE oneAt
  by_cases h : k = i
  · subst h; simp
  · rw [if_neg h, if_neg fun e => h (word_inj e)]

/-- A one-hot row times a column is the column's entry at the row's one. -/
theorem sum_oneAt (i : Fin 1024) (f : Fin 1024 → EReal) : ∑ k, oneAt i k * f k = f i := by
  rw [Finset.sum_eq_single i]
  · unfold oneAt; rw [if_pos rfl, one_mul]
  · intro k _ hk; unfold oneAt; rw [if_neg hk, zero_mul]
  · intro h; exact absurd (Finset.mem_univ i) h

/-! ## The quantiser -/

variable (H : Vec Ideal S2x512x768 .f32) (W : Vec Ideal S768x256 .f32) (b : Vec Ideal S256 .f32) (C : Vec Ideal S2x1024x128 .f32)

/-- The projected hidden vector of position `t` of sequence `s`. -/
def hRow (s : Fin 2) (t : Fin 512) (c : Fin 256) : EReal := (∑ x : Fin 768, H (ix3 s t x) * W (ix2 x c)) + b (ix1 c)

/-- The squared distance of a group's part of the hidden vector to a code of that group. -/
def sqD (g s : Fin 2) (t : Fin 512) (k : Fin 1024) : EReal :=
  ∑ x : Fin 128, (hRow H W b s t (gcol g x) - C (ix3 g k x)) * (hRow H W b s t (gcol g x) - C (ix3 g k x))

/-- The chosen code. -/
def code (g s : Fin 2) (t : Fin 512) : Fin 1024 := near (sqD H W b C g s t)

/-- How often group `g` chooses code `k`. -/
def useS (g : Fin 2) (k : Fin 1024) : EReal := ∑ s : Fin 2, ∑ t : Fin 512, oneAt (code H W b C g s t) k

/-- The perplexity of the uses, averaged over the groups. -/
def perS : EReal :=
  Ideal.ofBits .f32 0x3F000000#32 * (Ideal.exp (0 - ∑ k : Fin 1024, entT (clipK (useS H W b C 0 k))) + Ideal.exp (0 - ∑ k : Fin 1024, entT (clipK (useS H W b C 1 k))))

/-- The column's group. -/
def colG (j : Fin 256) : Fin 2 := ⟨j.val / 128, by omega⟩

/-- The column within its group. -/
def colX (j : Fin 256) : Fin 128 := ⟨j.val % 128, by omega⟩

/-! ## The expanded square -/

theorem coe_sum_real {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Being a real number. -/
def IsReal (x : EReal) : Prop := ∃ r : ℝ, x = (r : EReal)

theorem ofBits_two : Ideal.ofBits .f32 0x40000000#32 = ((2 : ℝ) : EReal) := by
  simp [Ideal.ofBits, Ideal.ieee]; rw [← EReal.coe_mul]; norm_num

/-- On real numbers the expanded square of the distance is the square of the distance. -/
theorem expD_eq (hv : Fin 256 → EReal) (cv : Vec Ideal S2x1024x128 .f32) (hh : ∀ c, IsReal (hv c)) (hc : ∀ j, IsReal (cv j))
    (g : Fin 2) (k : Fin 1024) :
    expD hv cv g k = ∑ x : Fin 128, (hv (gcol g x) - cv (ix3 g k x)) * (hv (gcol g x) - cv (ix3 g k x)) := by
  choose a ha using hh
  choose q hq using hc
  unfold expD
  simp only [ha, hq, ofBits_two, ← EReal.coe_mul, ← EReal.coe_sub, ← coe_sum_real, ← EReal.coe_add]
  congr 1
  rw [Finset.mul_sum, ← Finset.sum_sub_distrib, ← Finset.sum_add_distrib]
  refine Finset.sum_congr rfl fun x _ => ?_
  ring

theorem IsReal.add {x y : EReal} (hx : IsReal x) (hy : IsReal y) : IsReal (x + y) := by
  obtain ⟨a, rfl⟩ := hx; obtain ⟨c, rfl⟩ := hy
  exact ⟨a + c, (EReal.coe_add a c).symm⟩

/-- The projection of finite arguments is finite. -/
theorem hRow_real (hH : ∀ j, IsReal (H j)) (hW : ∀ j, IsReal (W j)) (hb : ∀ j, IsReal (b j)) (s : Fin 2) (t : Fin 512) (c : Fin 256) :
    IsReal (hRow H W b s t c) := by
  choose a ha using hH
  choose q hq using hW
  refine IsReal.add ⟨∑ x : Fin 768, a (ix3 s t x) * q (ix2 x c), ?_⟩ (hb _)
  simp only [ha, hq, ← EReal.coe_mul, ← coe_sum_real]

/-- The kernel's distances of a position are the squared distances. -/
theorem expD_hRow (hH : ∀ j, IsReal (H j)) (hW : ∀ j, IsReal (W j)) (hb : ∀ j, IsReal (b j)) (hC : ∀ j, IsReal (C j))
    (g s : Fin 2) (t : Fin 512) : expD (hRow H W b s t) C g = sqD H W b C g s t :=
  funext fun k => expD_eq _ _ (hRow_real H W b hH hW hb s t) hC g k

/-! ## The two programs' scalings -/

theorem ofBits_half : Ideal.ofBits .f32 0x3F000000#32 = ((1 / 2 : ℝ) : EReal) := by
  simp [Ideal.ofBits, Ideal.ieee]; rw [← EReal.coe_mul]; norm_num

theorem ofBits_1024 : Ideal.ofBits .f32 0x44800000#32 = ((1024 : ℝ) : EReal) := by
  simp [Ideal.ofBits, Ideal.ieee]; rw [← EReal.coe_mul]; norm_num

theorem ofBits_inv1024 : Ideal.ofBits .f32 0x3A800000#32 = ((1 / 1024 : ℝ) : EReal) := by
  simp [Ideal.ofBits, Ideal.ieee]; rw [← EReal.coe_mul]; norm_num

/-- Dividing by 1024 is multiplying by its reciprocal. -/
theorem div_1024 (x : EReal) : Ideal.div x (Ideal.ofBits .f32 0x44800000#32) = x * Ideal.ofBits .f32 0x3A800000#32 := by
  rw [ofBits_1024, ofBits_inv1024, Ideal.div_coe (by norm_num)]

/-- Dividing by two is halving. -/
theorem div_two (x : EReal) : Ideal.div x (Ideal.ofBits .f32 0x40000000#32) = Ideal.ofBits .f32 0x3F000000#32 * x := by
  rw [ofBits_two, ofBits_half, Ideal.div_coe (by norm_num), mul_comm]

end Cert.Proof.Vq

end
-- ==== Proof.Vq.Grid.lean ====
/-
  The kernel's four results, entry by entry, in closed form over the extended reals: the arrays of the TensorCore call and
  of the SparseCore's gather are read at the coordinates of the arguments.
-/
module

public import proofs.«01_k».proof.Proof.Vq.Main
public import proofs.«01_k».proof.Proof.Vq.Spec
public import Idealize.ShloMosaic.Lib.Pointwise

@[expose] public section

set_option maxRecDepth 16384

noncomputable section

namespace Cert.Proof.Vq

open Cert.KernelIdeal Cert.KernelIdeal.Gen
open Idealize.ShloMosaic Idealize.ShloMosaic.TcCoe

/-! ## The blocks at coordinates -/

section Blocks

variable {F : FTy → Type} [FloatOps F]
variable (V : (c : Dev nD) → (b : Ref sig .tc) → Buf (Elt F) ((c : Thread nD τ).loc b)) (c : Dev nD) (t : Fin cfg0.N)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0] := by decide +kernel
theorem index3 : ∀ t : Fin grid0.N, win0_3.index t = ![0, 0, 0] := by decide +kernel

theorem xb0_at (r : Fin 256) (k : Fin 768) (i : Fin 1024) (hi : i.val = 256 * t.val + r.val) : xb0 V c t (ix2 r k) = V c main_v0 (ix2 i k) := by
  have e := index0 t
  blk_simp [xb0, e]
  blk_ext [e]
  all_goals omega

theorem xb1_at (x : Fin 768) (k : Fin 256) : xb1 V c t (ix2 x k) = V c main_arg1 (ix2 x k) := by
  have e := index1 t
  blk_simp [xb1, e]
  blk_ext [e]

theorem xb2_at (k : Fin 256) : xb2 V c t (ix1 k) = V c main_arg2 (ix1 k) := by
  have e := index2 t
  blk_simp [xb2, e]
  blk_ext [e]

theorem xb3_at (g : Fin 2) (k : Fin 1024) (x : Fin 128) : xb3 V c t (ix3 g k x) = V c main_arg3 (ix3 g k x) := by
  have e := index3 t
  blk_simp [xb3, e]
  blk_ext [e]

end Blocks

/-! ## The buffers along @main -/

section Buffers

variable {F : FTy → Type} [FloatOps F] [∀ e, Nonempty (Elt F e)]
variable (m : (ℓ : Loc nD τ sig) → Buf (Elt F) ℓ) (d : Dev nD)

theorem V1_arg1 : V1 m d main_arg1 = m (d, main_arg1) := by
  show opB.result (opA.result (W0 m d)) (main_arg1 : DevRef τ sig) = _
  rw [StableHlo.reshape_result_ne _ _ _ _ _ (by decide), StableHlo.reshape_result_ne _ _ _ _ _ (by decide)]; rfl
  all_goals decide
theorem V1_arg2 : V1 m d main_arg2 = m (d, main_arg2) := by
  show opB.result (opA.result (W0 m d)) (main_arg2 : DevRef τ sig) = _
  rw [StableHlo.reshape_result_ne _ _ _ _ _ (by decide), StableHlo.reshape_result_ne _ _ _ _ _ (by decide)]; rfl
  all_goals decide
theorem V1_arg3 : V1 m d main_arg3 = m (d, main_arg3) := by
  show opB.result (opA.result (W0 m d)) (main_arg3 : DevRef τ sig) = _
  rw [StableHlo.reshape_result_ne _ _ _ _ _ (by decide), StableHlo.reshape_result_ne _ _ _ _ _ (by decide)]; rfl
  all_goals decide
theorem V1_arg0 : V1 m d main_arg0 = m (d, main_arg0) := by
  show opB.result (opA.result (W0 m d)) (main_arg0 : DevRef τ sig) = _
  rw [StableHlo.reshape_result_ne _ _ _ _ _ (by decide), StableHlo.reshape_result_ne _ _ _ _ _ (by decide)]; rfl
  all_goals decide

/-- The hidden states with their two leading axes as one. -/
theorem V1_v0 : V1 m d main_v0 = shapeCast S1024x768 (m (d, main_arg0)) shapeCasts_S2x512x768_S1024x768 := by
  show opB.result (opA.result (W0 m d)) (main_v0 : DevRef τ sig) = _
  rw [StableHlo.reshape_result_ne _ _ _ _ _ (by decide), StableHlo.reshape_result]; rfl
  all_goals decide

/-- The codes with their two leading axes as one. -/
theorem V1_v1 : V1 m d main_v1 = shapeCast S2048x128 (m (d, main_arg3)) shapeCasts_S2x1024x128_S2048x128 := by
  show opB.result (opA.result (W0 m d)) (main_v1 : DevRef τ sig) = _
  rw [StableHlo.reshape_result, StableHlo.reshape_result_ne _ _ _ _ _ (by decide)]; rfl
  all_goals decide

theorem fi_eq : fi m d = shapeCast S2048 (idxG (V1 m) d) shapeCasts_S16x128_S2048 := by
  show opC.result (W2 m d) (main_v3 : DevRef τ sig) = _
  rw [StableHlo.reshape_result]
  unfold W2
  rw [upd_6]; rfl

theorem fx_eq : fx m d = shapeCast S2048x128 (m (d, main_arg3)) shapeCasts_S2x1024x128_S2048x128 := by
  show opC.result (W2 m d) (main_v1 : DevRef τ sig) = _
  rw [StableHlo.reshape_result_ne _ _ _ _ _ (by decide)]
  unfold W2
  rw [upd_of_ne _ _ _ _ _ _ _ (by decide) (by decide) (by decide) (by decide)]
  exact V1_v1 m d
  all_goals decide

theorem W7_v4 : W7 m d (main_v4 : DevRef τ sig) = gath (fi m d) (fx m d) := by
  unfold W7
  rw [StableHlo.reshape_result_ne _ _ _ _ _ (by decide), StableHlo.reshape_result_ne _ _ _ _ _ (by decide), StableHlo.reshape_result_ne _ _ _ _ _ (by decide)]
  unfold W4
  rw [Function.update_self]
  all_goals decide

theorem W7_v5 : W7 m d (main_v5 : DevRef τ sig) = shapeCast S2x2x512x1024 (distG (V1 m) d) shapeCasts_S2x1024x1024_S2x2x512x1024 := by
  unfold W7
  rw [StableHlo.reshape_result_ne _ _ _ _ _ (by decide), StableHlo.reshape_result_ne _ _ _ _ _ (by decide), StableHlo.reshape_result]
  unfold W4
  rw [Function.update_of_ne (by decide)]
  unfold W3
  rw [StableHlo.reshape_result_ne _ _ _ _ _ (by decide)]
  unfold W2
  rw [upd_4]; rfl
  all_goals decide

theorem W7_v6 : W7 m d (main_v6 : DevRef τ sig) = shapeCast S2x2x512x1024 (encG (V1 m) d) shapeCasts_S2x1024x1024_S2x2x512x1024 := by
  unfold W7
  rw [StableHlo.reshape_result_ne _ _ _ _ _ (by decide), StableHlo.reshape_result, StableHlo.reshape_result_ne _ _ _ _ _ (by decide)]
  unfold W4
  rw [Function.update_of_ne (by decide)]
  unfold W3
  rw [StableHlo.reshape_result_ne _ _ _ _ _ (by decide)]
  unfold W2
  rw [upd_5]; rfl
  all_goals decide

theorem W7_v7 : W7 m d (main_v7 : DevRef τ sig) = shapeCast S_ (pplG (V1 m) d) shapeCasts_S1x1_S_ := by
  unfold W7
  rw [StableHlo.reshape_result, StableHlo.reshape_result_ne _ _ _ _ _ (by decide), StableHlo.reshape_result_ne _ _ _ _ _ (by decide)]
  unfold W4
  rw [Function.update_of_ne (by decide)]
  unfold W3
  rw [StableHlo.reshape_result_ne _ _ _ _ _ (by decide)]
  unfold W2
  rw [upd_7]; rfl
  all_goals decide

/-- A buffer that no operation of @main writes ends as it began. -/
theorem W7_kept (b : Ref sig .tc) (hF : b ≠ main_v7) (hE : b ≠ main_v6) (hD : b ≠ main_v5) (h4 : (b : DevRef τ sig) ≠ (main_v4 : DevRef τ sig))
    (hC : b ≠ main_v3) (hB : b ≠ main_v1) (hA : b ≠ main_v0) (h0 : (b : DevRef τ sig) ≠ (main_v2_0 : DevRef τ sig))
    (h1 : (b : DevRef τ sig) ≠ (main_v2_1 : DevRef τ sig)) (h2 : (b : DevRef τ sig) ≠ (main_v2_2 : DevRef τ sig)) (h3 : (b : DevRef τ sig) ≠ (main_v2_3 : DevRef τ sig)) :
    W7 m d (b : DevRef τ sig) = m (d, b) := by
  unfold W7
  rw [StableHlo.reshape_result_ne (h := hF), StableHlo.reshape_result_ne (h := hE), StableHlo.reshape_result_ne (h := hD)]
  unfold W4
  rw [Function.update_of_ne h4]
  unfold W3
  rw [StableHlo.reshape_result_ne (h := hC)]
  unfold W2
  rw [upd_of_ne _ _ _ _ _ _ _ h0 h1 h2 h3]
  unfold W1
  rw [StableHlo.reshape_result_ne (h := hB), StableHlo.reshape_result_ne (h := hA)]
  rfl

theorem W7_arg0 : W7 m d (main_arg0 : DevRef τ sig) = m (d, main_arg0) :=
  W7_kept m d _ (by decide) (by decide) (by decide) (by decide) (by decide) (by decide) (by decide) (by decide) (by decide) (by decide) (by decide)
theorem W7_arg1 : W7 m d (main_arg1 : DevRef τ sig) = m (d, main_arg1) :=
  W7_kept m d _ (by decide) (by decide) (by decide) (by decide) (by decide) (by decide) (by decide) (by decide) (by decide) (by decide) (by decide)
theorem W7_arg2 : W7 m d (main_arg2 : DevRef τ sig) = m (d, main_arg2) :=
  W7_kept m d _ (by decide) (by decide) (by decide) (by decide) (by decide) (by decide) (by decide) (by decide) (by decide) (by decide) (by decide)
theorem W7_arg3 : W7 m d (main_arg3 : DevRef τ sig) = m (d, main_arg3) :=
  W7_kept m d _ (by decide) (by decide) (by decide) (by decide) (by decide) (by decide) (by decide) (by decide) (by decide) (by decide) (by decide)

end Buffers

end Cert.Proof.Vq

end
-- ==== Proof.Vq.Value.lean ====
/-
  The kernel's four results over the extended reals, entry by entry, as functions of the arguments: the expanded squared
  distances, the one-hot rows of the first nearest codes, the gathered codes and the perplexity. No condition on the
  arguments; in particular every word of the list that the SparseCore gathers by names a row of the table.
-/
module

public import proofs.«01_k».proof.Proof.Vq.Grid

@[expose] public section

set_option maxRecDepth 16384

noncomputable section

namespace Cert.Proof.Vq

open Cert.KernelIdeal Cert.KernelIdeal.Gen
open Idealize.ShloMosaic Idealize.ShloMosaic.TcCoe

variable (m : (ℓ : Loc nD τ sig) → Buf (Elt Ideal) ℓ) (d : Dev nD)

/-- The arguments. -/
abbrev aH : Vec Ideal S2x512x768 .f32 := m (d, main_arg0)
abbrev aW : Vec Ideal S768x256 .f32 := m (d, main_arg1)
abbrev aB : Vec Ideal S256 .f32 := m (d, main_arg2)
abbrev aC : Vec Ideal S2x1024x128 .f32 := m (d, main_arg3)

/-- The expanded squared distances of position `p` of sequence `s` to the codes of group `g`. -/
def kD (g s : Fin 2) (p : Fin 512) : Fin 1024 → EReal := expD (hRow (aH m d) (aW m d) (aB m d) s p) (aC m d) g

/-- The code the kernel chooses. -/
def kCode (g s : Fin 2) (p : Fin 512) : Fin 1024 := near (kD m d g s p)

/-! ## One grid point -/

/-- The hidden states with their two leading axes as one, at a row. -/
theorem flatH (q : Vec Ideal S2x512x768 .f32) (s : Fin 2) (p : Fin 512) (hb : s.val * 512 + p.val < 1024) (x : Fin 768) :
    shapeCast S1024x768 q shapeCasts_S2x512x768_S1024x768 (ix2 ⟨s.val * 512 + p.val, hb⟩ x) = q (ix3 s p x) := by
  pointwise

/-- The codes with their two leading axes as one, at a row. -/
theorem flatC (q : Vec Ideal S2x1024x128 .f32) (g : Fin 2) (k : Fin 1024) (hb : g.val * 1024 + k.val < 2048) (x : Fin 128) :
    shapeCast S2048x128 q shapeCasts_S2x1024x128_S2048x128 (ix2 ⟨g.val * 1024 + k.val, hb⟩ x) = q (ix3 g k x) := by
  pointwise

theorem block_row (t : Fin cfg0.N) (r : Fin 256) (s : Fin 2) (p : Fin 512) (h : 256 * t.val + r.val = s.val * 512 + p.val) (x : Fin 768) :
    xb0 (V1 m) d t (ix2 r x) = aH m d (ix3 s p x) :=
  (xb0_at (V1 m) d t r x ⟨s.val * 512 + p.val, by omega⟩ h.symm).trans
    ((congrFun (V1_v0 m d) _).trans (flatH (aH m d) s p _ x))

theorem block_w (t : Fin cfg0.N) (x : Fin 768) (k : Fin 256) : xb1 (V1 m) d t (ix2 x k) = aW m d (ix2 x k) :=
  (xb1_at (V1 m) d t x k).trans (congrFun (V1_arg1 m d) _)

theorem block_b (t : Fin cfg0.N) (k : Fin 256) : xb2 (V1 m) d t (ix1 k) = aB m d (ix1 k) :=
  (xb2_at (V1 m) d t k).trans (congrFun (V1_arg2 m d) _)

theorem hid_at (t : Fin cfg0.N) (r : Fin 256) (s : Fin 2) (p : Fin 512) (h : 256 * t.val + r.val = s.val * 512 + p.val) :
    hidB (xb0 (V1 m) d t) (xb1 (V1 m) d t) (xb2 (V1 m) d t) r = hRow (aH m d) (aW m d) (aB m d) s p := by
  funext c
  unfold hidB hRow
  rw [block_b]
  refine congrArg (· + aB m d (ix1 c)) (Finset.sum_congr rfl fun x _ => ?_)
  rw [block_row m d t r s p h, block_w]

theorem codes_at (t : Fin cfg0.N) : xb3 (V1 m) d t = aC m d := by
  funext j
  exact (congrArg (xb3 (V1 m) d t) (eq_ix3 j)).trans ((xb3_at (V1 m) d t (j 0) (j 1) (j 2)).trans
    ((congrFun (V1_arg3 m d) _).trans (congrArg (aC m d) (eq_ix3 j).symm)))

theorem word_at (t : Fin cfg0.N) (g : Fin 2) (r : Fin 256) (s : Fin 2) (p : Fin 512) (h : 256 * t.val + r.val = s.val * 512 + p.val) :
    wordW (xb0 (V1 m) d t) (xb1 (V1 m) d t) (xb2 (V1 m) d t) (xb3 (V1 m) d t) g r = BitVec.ofNat 32 (kCode m d g s p).val := by
  obtain ⟨k, hk, e⟩ := word_first (xb0 (V1 m) d t) (xb1 (V1 m) d t) (xb2 (V1 m) d t) (xb3 (V1 m) d t) g r
  rw [hid_at m d t r s p h, codes_at] at hk
  rw [e, near_eq hk]
  rfl

/-! ## The TensorCore call's arrays -/

theorem row_split (s : Fin 2) (p : Fin 512) (R : Fin 1024) (hR : R.val = s.val * 512 + p.val) :
    256 * (ptOf R).val + (⟨R.val % 256, Nat.mod_lt _ (by decide)⟩ : Fin 256).val = s.val * 512 + p.val := by
  show 256 * (R.val / 256) + R.val % 256 = _
  omega

theorem distG_at (g : Fin 2) (R : Fin 1024) (k : Fin 1024) (s : Fin 2) (p : Fin 512) (hR : R.val = s.val * 512 + p.val) :
    distG (V1 m) d (ix3 g R k) = kD m d g s p k := by
  have e : distG (V1 m) d (ix3 g R k) = distW (xb0 (V1 m) d (ptOf R)) (xb1 (V1 m) d (ptOf R)) (xb2 (V1 m) d (ptOf R)) (xb3 (V1 m) d (ptOf R))
    (ix3 g ⟨R.val % 256, Nat.mod_lt _ (by decide)⟩ k) := rfl
  rw [e, distW_at, hid_at m d (ptOf R) _ s p (row_split s p R hR), codes_at]
  rfl

theorem encG_at (g : Fin 2) (R : Fin 1024) (k : Fin 1024) (s : Fin 2) (p : Fin 512) (hR : R.val = s.val * 512 + p.val) :
    encG (V1 m) d (ix3 g R k) = oneAt (kCode m d g s p) k := by
  refine (encW_at _ _ _ _ g ⟨R.val % 256, Nat.mod_lt _ (by decide)⟩ k).trans ?_
  rw [← hotE_word, ← word_at m d (ptOf R) g _ s p (row_split s p R hR)]
  rfl

theorem idxG_at (g s : Fin 2) (p : Fin 512) (a : Fin 16) (c : Fin 128) (h : a.val * 128 + c.val = g.val * 1024 + (s.val * 512 + p.val)) :
    idxG (V1 m) d (ix2 a c) = BitVec.ofNat 32 (kCode m d g s p).val + BitVec.ofNat 32 (g.val * 1024) := by
  have hs := s.isLt; have hp := p.isLt; have hc := c.isLt
  have hw : 256 * (idxPt a).val + (⟨(⟨a.val % 2, Nat.mod_lt _ (by decide)⟩ : Fin 2).val * 128 + c.val, by have : a.val % 2 < 2 := Nat.mod_lt _ (by decide); show a.val % 2 * 128 + c.val < 256; omega⟩ : Fin 256).val = s.val * 512 + p.val := by
    show 256 * (a.val % 8 / 2) + (a.val % 2 * 128 + c.val) = _
    omega
  have hg : g = 0 ∨ g = 1 := by omega
  rcases hg with rfl | rfl
  · have ha : a.val < 8 := by have : a.val * 128 + c.val = 0 * 1024 + (s.val * 512 + p.val) := h; omega
    refine (if_pos (show ((ix2 a c : S16x128.Idx) 0).val < 8 from ha)).trans ?_
    refine (idxA_at _ _ _ _ ⟨a.val % 2, Nat.mod_lt _ (by decide)⟩ c).trans ?_
    rw [← word_at m d (idxPt a) 0 _ s p hw]
    exact (BitVec.add_zero _).symm
  · have ha : ¬ a.val < 8 := by have : a.val * 128 + c.val = 1 * 1024 + (s.val * 512 + p.val) := h; omega
    refine (if_neg (show ¬ ((ix2 a c : S16x128.Idx) 0).val < 8 from ha)).trans ?_
    refine (idxB_at _ _ _ _ ⟨a.val % 2, Nat.mod_lt _ (by decide)⟩ c).trans ?_
    rw [← word_at m d (idxPt a) 1 _ s p hw]
    rfl

/-! ## The list and the table of the gather -/

theorem fi_at (g s : Fin 2) (p : Fin 512) (e : Fin 2048) (h : e.val = g.val * 1024 + (s.val * 512 + p.val)) :
    (fi m d (ix1 e)).toNat = g.val * 1024 + (kCode m d g s p).val := by
  have e1 : fi m d (ix1 e) = idxG (V1 m) d (ix2 ⟨e.val / 128, by omega⟩ ⟨e.val % 128, by omega⟩) := by
    rw [fi_eq]
    generalize idxG (V1 m) d = q
    pointwise
  rw [e1, idxG_at m d g s p _ _ (by show e.val / 128 * 128 + e.val % 128 = _; omega), BitVec.toNat_add, toNat_word, BitVec.toNat_ofNat]
  have hk := (kCode m d g s p).isLt
  have hg := g.isLt
  omega

/-- Every word of the list names a row of the table. -/
theorem fi_lt (j : S2048.Idx) : (fi m d j).toNat < 2048 := by
  have all : ∀ e : Fin 2048, (fi m d (ix1 e)).toNat < 2048 := fun e => by
    have he := e.isLt
    have hk := (kCode m d ⟨e.val / 1024, by omega⟩ ⟨e.val % 1024 / 512, by omega⟩ ⟨e.val % 512, by omega⟩).isLt
    refine (fi_at m d ⟨e.val / 1024, by omega⟩ ⟨e.val % 1024 / 512, by omega⟩ ⟨e.val % 512, by omega⟩ e
      (by show e.val = e.val / 1024 * 1024 + (e.val % 1024 / 512 * 512 + e.val % 512); omega)).trans_lt ?_
    show e.val / 1024 * 1024 + _ < 2048
    omega
  have e : j = ix1 (j 0) := by
    funext a
    match a with
    | ⟨0, _⟩ => rfl
  exact (congrArg (fun j => (fi m d j).toNat) e).trans_lt (all (j 0))

theorem fx_at (i : Fin 2048) (x : Fin 128) (g : Fin 2) (k : Fin 1024) (h : i.val = g.val * 1024 + k.val) :
    fx m d (ix2 i x) = aC m d (ix3 g k x) := by
  have hi : i = ⟨g.val * 1024 + k.val, by have := g.isLt; have := k.isLt; omega⟩ := Fin.ext h
  rw [fx_eq, hi]
  exact flatC (aC m d) g k _ x

/-! ## The results -/

theorem dist_at (g s : Fin 2) (p : Fin 512) (k : Fin 1024) : W7 m d (main_v5 : DevRef τ sig) (ix4 g s p k) = kD m d g s p k := by
  rw [W7_v5, ← distG_at m d g ⟨s.val * 512 + p.val, by omega⟩ k s p rfl]
  generalize distG (V1 m) d = q
  pointwise

theorem enc_at (g s : Fin 2) (p : Fin 512) (k : Fin 1024) : W7 m d (main_v6 : DevRef τ sig) (ix4 g s p k) = oneAt (kCode m d g s p) k := by
  rw [W7_v6, ← encG_at m d g ⟨s.val * 512 + p.val, by omega⟩ k s p rfl]
  generalize encG (V1 m) d = q
  pointwise

theorem quant_at (s : Fin 2) (p : Fin 512) (j : Fin 256) :
    W7 m d (main_v4 : DevRef τ sig) (ix3 s p j) = aC m d (ix3 (colG j) (kCode m d (colG j) s p) (colX j)) := by
  have hj := j.isLt; have hs := s.isLt; have hp := p.isLt
  have hk := (kCode m d (colG j) s p).isLt
  have hf := fi_at m d (colG j) s p ⟨j.val / 128 * 1024 + s.val * 512 + p.val, by omega⟩ (by show j.val / 128 * 1024 + s.val * 512 + p.val = j.val / 128 * 1024 + (s.val * 512 + p.val); omega)
  rw [W7_v4]
  have e : gath (fi m d) (fx m d) (ix3 s p j)
      = fx m d (ix2 ⟨(fi m d (ix1 ⟨j.val / 128 * 1024 + s.val * 512 + p.val, by omega⟩)).toNat % 2048, Nat.mod_lt _ (by decide)⟩ (colX j)) := rfl
  rw [e]
  refine fx_at m d _ _ _ _ ?_
  show _ % 2048 = _
  rw [hf]
  have : (colG j).val < 2 := (colG j).isLt
  omega

theorem cnt_at (g : Fin 2) (k : Fin 1024) :
    cntAt (V1 m) d 4 (ix2 g k) = ∑ s : Fin 2, ∑ p : Fin 512, oneAt (kCode m d g s p) k := by
  have step : ∀ (n : ℕ) (hn : n < 4), cntAt (V1 m) d (n + 1) (ix2 g k) = cntAt (V1 m) d n (ix2 g k)
      + ∑ r : Fin 256, oneAt (kCode m d g ⟨(n * 256 + r.val) / 512, by omega⟩ ⟨(n * 256 + r.val) % 512, by omega⟩) k := fun n hn => by
    have hN : cfg0.N = 4 := N_0
    rw [cntAt_succ (V1 m) d ⟨n, by omega⟩, cntW_at]
    refine congrArg (cntAt (V1 m) d n (ix2 g k) + ·) (Finset.sum_congr rfl fun r _ => ?_)
    rw [word_at m d ⟨n, by omega⟩ g r ⟨(n * 256 + r.val) / 512, by omega⟩ ⟨(n * 256 + r.val) % 512, by omega⟩
      (by show 256 * n + r.val = (n * 256 + r.val) / 512 * 512 + (n * 256 + r.val) % 512; omega), hotE_word]
  have h0 : cntAt (V1 m) d 0 (ix2 g k) = 0 := pay3_at g k
  have t4 := Fin.sum_univ_tiles 4 256 (rfl : 4 * 256 = 1024) (fun R : Fin 1024 => oneAt (kCode m d g ⟨R.val / 512, by omega⟩ ⟨R.val % 512, by omega⟩) k)
  have t2 := Fin.sum_univ_tiles 2 512 (rfl : 2 * 512 = 1024) (fun R : Fin 1024 => oneAt (kCode m d g ⟨R.val / 512, by omega⟩ ⟨R.val % 512, by omega⟩) k)
  have e2 : (∑ s : Fin 2, ∑ p : Fin 512, oneAt (kCode m d g s p) k) = ∑ R : Fin 1024, oneAt (kCode m d g ⟨R.val / 512, by omega⟩ ⟨R.val % 512, by omega⟩) k := by
    rw [t2]
    refine Finset.sum_congr rfl fun s _ => Finset.sum_congr rfl fun p _ => ?_
    have h1 : (⟨(s.val * 512 + p.val) / 512, by omega⟩ : Fin 2) = s := Fin.ext (by show (s.val * 512 + p.val) / 512 = s.val; omega)
    have h2 : (⟨(s.val * 512 + p.val) % 512, by omega⟩ : Fin 512) = p := Fin.ext (by show (s.val * 512 + p.val) % 512 = p.val; omega)
    show oneAt (kCode m d g s p) k = oneAt (kCode m d g ⟨(s.val * 512 + p.val) / 512, _⟩ ⟨(s.val * 512 + p.val) % 512, _⟩) k
    rw [h1, h2]
  rw [e2, t4, Fin.sum_univ_four, step 3 (by omega), step 2 (by omega), step 1 (by omega), step 0 (by omega), h0, zero_add]
  rfl

theorem ppl_at (j : S_.Idx) : W7 m d (main_v7 : DevRef τ sig) j
    = Ideal.ofBits .f32 0x3F000000#32 * (Ideal.exp (0 - ∑ k : Fin 1024, entT (clipK (∑ s : Fin 2, ∑ p : Fin 512, oneAt (kCode m d 0 s p) k)))
        + Ideal.exp (0 - ∑ k : Fin 1024, entT (clipK (∑ s : Fin 2, ∑ p : Fin 512, oneAt (kCode m d 1 s p) k)))) := by
  have hj : j = ix0 := funext fun a => a.elim0
  have e : W7 m d (main_v7 : DevRef τ sig) ix0 = pplW (cntAt (V1 m) d 4) (ix2 0 0) := by
    rw [W7_v7]
    show _ = pplG (V1 m) d (ix2 0 0)
    generalize pplG (V1 m) d = q
    pointwise
  rw [hj, e, pplW_at]
  simp only [cnt_at]

end Cert.Proof.Vq

end
-- ==== Proof.Vq.RefRun.lean ====
/-
  The reference's run. @main is a straight line of host operations (the calls of `argmin`, `one_hot` and `clip` written
  out where they stand), so every run ends with each array at the fold of the operations; here that fold is read at the
  four results, each a named function of the four arguments (`quantR`, `encR`, `distR`, `pplR`).
-/
module

public import proofs.«01_k».proof.Proof.Gen.ReferenceIdeal
public import Idealize.ShloMosaic.Lib.StableHlo.Run

@[expose] public section

noncomputable section

namespace Cert.Proof.Vq.Ref

open Cert.ReferenceIdeal Cert.ReferenceIdeal.Gen Idealize.ShloMosaic Idealize.ShloMosaic.TcCoe Idealize.SL.Sem Idealize.ShloMosaic.StableHlo

variable {F : FTy → Type} [FloatOps F]

/-- Two arrays over (batch, position, code), one under the other along a new leading axis of groups. -/
def catD (a b : Vec F S1x2x512x1024 .f32) : Vec F S2x2x512x1024 .f32 :=
  concatenate S2x2x512x1024 0 [⟨S1x2x512x1024, a⟩, ⟨S1x2x512x1024, b⟩] concatenates_S1x2x512x1024_S1x2x512x1024_S2x2x512x1024_d0

/-- The two groups' chosen codes side by side. -/
def catQ (a b : Vec F S2x512x128 .f32) : Vec F S2x512x256 .f32 :=
  concatenate S2x512x256 2 [⟨S2x512x128, a⟩, ⟨S2x512x128, b⟩] concatenates_S2x512x128_S2x512x128_S2x512x256_d2

/-- The least value the argmin finds along the last axis. -/
def argV (x : Vec F S2x512x1024 .f32) (y : Vec F S2x512x1024 .i32) (u : Vec F S_ .f32) (v : Vec F S_ .i32) : Vec F S2x512 .f32 :=
  fun j => (Host.argReduce reducer_argmin_f32_i32 x y u v reducesTo_S2x512x1024_S2x512_d2 h_S_ j).1

/-- The index the argmin finds along the last axis. -/
def argI (x : Vec F S2x512x1024 .f32) (y : Vec F S2x512x1024 .i32) (u : Vec F S_ .f32) (v : Vec F S_ .i32) : Vec F S2x512 .i32 :=
  fun j => (Host.argReduce reducer_argmin_f32_i32 x y u v reducesTo_S2x512x1024_S2x512_d2 h_S_ j).2

/-- The projection `hidden_states @ W + b`, its last axis split in two groups. -/
def hidR (h : Vec F S2x512x768 .f32) (W : Vec F S768x256 .f32) (b : Vec F S256 .f32) : Vec F S2x512x2x128 .f32 :=
  shapeCast S2x512x2x128 (addf (Host.dotGeneral dot_S2x512x768_S768x256_S2x512x256_2_0_01_1_n_n none h W)
    (broadcastInDim S2x512x256 ![0, 1, 2] bcast_S1x1x256_S2x512x256_0_1_2 (broadcastInDim S1x1x256 ![2] bcast_S256_S1x1x256_2 b)))
    shapeCasts_S2x512x256_S2x512x2x128

/-- Group 0 of the projection. -/
def hid0 (x : Vec F S2x512x2x128 .f32) : Vec F S2x512x128 .f32 :=
  shapeCast S2x512x128 (extractStridedSlice S2x512x1x128 ![0, 0, 0, 0] x slices_S2x512x2x128_S2x512x1x128_0_0_0_0) shapeCasts_S2x512x1x128_S2x512x128

/-- Group 1 of the projection. -/
def hid1 (x : Vec F S2x512x2x128 .f32) : Vec F S2x512x128 .f32 :=
  shapeCast S2x512x128 (extractStridedSlice S2x512x1x128 ![0, 0, 1, 0] x slices_S2x512x2x128_S2x512x1x128_0_0_1_0) shapeCasts_S2x512x1x128_S2x512x128

/-- Group 0's codes. -/
def code0 (c : Vec F S2x1024x128 .f32) : Vec F S1024x128 .f32 :=
  shapeCast S1024x128 (extractStridedSlice S1x1024x128 ![0, 0, 0] c slices_S2x1024x128_S1x1024x128_0_0_0) shapeCasts_S1x1024x128_S1024x128

/-- Group 1's codes. -/
def code1 (c : Vec F S2x1024x128 .f32) : Vec F S1024x128 .f32 :=
  shapeCast S1024x128 (extractStridedSlice S1x1024x128 ![1, 0, 0] c slices_S2x1024x128_S1x1024x128_1_0_0) shapeCasts_S1x1024x128_S1024x128

/-- The difference of every vector with every code. -/
def diffR (h : Vec F S2x512x128 .f32) (c : Vec F S1024x128 .f32) : Vec F S2x512x1024x128 .f32 :=
  subf (broadcastInDim S2x512x1024x128 ![0, 1, 2, 3] bcast_S2x512x1x128_S2x512x1024x128_0_1_2_3
      (broadcastInDim S2x512x1x128 ![0, 1, 3] bcast_S2x512x128_S2x512x1x128_0_1_3 h))
    (broadcastInDim S2x512x1024x128 ![0, 1, 2, 3] bcast_S1x1x1024x128_S2x512x1024x128_0_1_2_3
      (broadcastInDim S1x1x1024x128 ![2, 3] bcast_S1024x128_S1x1x1024x128_2_3 c))

/-- The squared distance of every vector to every code. -/
def sqR (h : Vec F S2x512x128 .f32) (c : Vec F S1024x128 .f32) : Vec F S2x512x1024 .f32 :=
  Host.reduceAdd (mulf (diffR h c) (diffR h c)) (constant S_ .f32 0x00000000#32) reducesTo_S2x512x1024x128_S2x512x1024_d3 h_S_

/-- The first index at which each row of `d` is least. -/
def argR (d : Vec F S2x512x1024 .f32) : Vec F S2x512 .i32 :=
  argI d (iotaInDim S2x512x1024 32 2) (constant S_ .f32 0x7F800000#32) (constantI S_ 32 0#32)

/-- The one-hot rows of the indices `i`. -/
def hotR (i : Vec F S2x512 .i32) : Vec F S2x512x1024 .f32 :=
  uitofp .f32 (cmpi .eq
    (broadcastInDim S2x512x1024 ![0, 1, 2] bcast_S2x512x1_S2x512x1024_0_1_2 (broadcastInDim S2x512x1 ![0, 1] bcast_S2x512_S2x512x1_0_1 i))
    (broadcastInDim S2x512x1024 ![0, 1, 2] bcast_S1x1x1024_S2x512x1024_0_1_2 (iotaInDim S1x1x1024 32 2)))

/-- The rows of `c` that one-hot rows choose: their product. -/
def pickR (e : Vec F S2x512x1024 .f32) (c : Vec F S1024x128 .f32) : Vec F S2x512x128 .f32 :=
  Host.dotGeneral dot_S2x512x1024_S1024x128_S2x512x128_2_0_01_1_n_n none e c

/-- An array over (batch, position, code) with a leading axis of one. -/
def leadR (x : Vec F S2x512x1024 .f32) : Vec F S1x2x512x1024 .f32 :=
  broadcastInDim S1x2x512x1024 ![1, 2, 3] bcast_S2x512x1024_S1x2x512x1024_1_2_3 x

/-- Group 0's distances, from the arguments. -/
def d0 (h : Vec F S2x512x768 .f32) (W : Vec F S768x256 .f32) (b : Vec F S256 .f32) (c : Vec F S2x1024x128 .f32) : Vec F S2x512x1024 .f32 :=
  sqR (hid0 (hidR h W b)) (code0 c)

/-- Group 1's distances, from the arguments. -/
def d1 (h : Vec F S2x512x768 .f32) (W : Vec F S768x256 .f32) (b : Vec F S256 .f32) (c : Vec F S2x1024x128 .f32) : Vec F S2x512x1024 .f32 :=
  sqR (hid1 (hidR h W b)) (code1 c)

/-- The result `distances`. -/
def distR (h : Vec F S2x512x768 .f32) (W : Vec F S768x256 .f32) (b : Vec F S256 .f32) (c : Vec F S2x1024x128 .f32) : Vec F S2x2x512x1024 .f32 :=
  catD (leadR (d0 h W b c)) (leadR (d1 h W b c))

/-- The result `encodings`. -/
def encR (h : Vec F S2x512x768 .f32) (W : Vec F S768x256 .f32) (b : Vec F S256 .f32) (c : Vec F S2x1024x128 .f32) : Vec F S2x2x512x1024 .f32 :=
  catD (leadR (hotR (argR (d0 h W b c)))) (leadR (hotR (argR (d1 h W b c))))

/-- The result `quantized`. -/
def quantR (h : Vec F S2x512x768 .f32) (W : Vec F S768x256 .f32) (b : Vec F S256 .f32) (c : Vec F S2x1024x128 .f32) : Vec F S2x512x256 .f32 :=
  catQ (pickR (hotR (argR (d0 h W b c))) (code0 c)) (pickR (hotR (argR (d1 h W b c))) (code1 c))

/-- How often each code of each group is used, over the number of positions. -/
def meanR (e : Vec F S2x2x512x1024 .f32) : Vec F S2x1024 .f32 :=
  Host.divf (Host.reduceAdd e (constant S_ .f32 0x00000000#32) reducesTo_S2x2x512x1024_S2x1024_d1_2 h_S_)
    (broadcastInDim S2x1024 ![] bcast_S_S2x1024 (constant S_ .f32 0x44800000#32))

/-- The mean use held between 1e-10 and 1. -/
def clipR (x : Vec F S2x1024 .f32) : Vec F S2x1024 .f32 :=
  minimumf (broadcastInDim S2x1024 ![] bcast_S_S2x1024 (id (constant S_ .f32 0x3F800000#32)))
    (maximumf (broadcastInDim S2x1024 ![] bcast_S_S2x1024 (id (constant S_ .f32 0x2EDBE6FF#32))) x)

/-- Each group's perplexity of the clipped mean use `p`. -/
def plxR (p : Vec F S2x1024 .f32) : Vec F S2 .f32 :=
  Host.exp (Host.negf (Host.reduceAdd
    (mulf p (Host.log (addf p (broadcastInDim S2x1024 ![] bcast_S_S2x1024 (constant S_ .f32 0x2EDBE6FF#32)))))
    (constant S_ .f32 0x00000000#32) reducesTo_S2x1024_S2_d1 h_S_))

/-- The mean of the two groups' perplexities. -/
def avgR (p : Vec F S2 .f32) : Vec F S_ .f32 :=
  Host.divf (Host.reduceAdd p (constant S_ .f32 0x00000000#32) reducesTo_S2_S_d0 h_S_) (constant S_ .f32 0x40000000#32)

/-- The result `perplexity`. -/
def pplR (h : Vec F S2x512x768 .f32) (W : Vec F S768x256 .f32) (b : Vec F S256 .f32) (c : Vec F S2x1024x128 .f32) : Vec F S_ .f32 :=
  avgR (plxR (clipR (meanR (encR h W b c))))

set_option maxRecDepth 8192 in
/-- @main's operations in order. -/
abbrev ops : List (HloOp τ sig (Elt F)) :=
  [ binary main_arg0 main_arg1 main_v0 ((fun l r => Host.dotGeneral dot_S2x512x768_S768x256_S2x512x256_2_0_01_1_n_n none l r) : (⟨S2x512x768, .f32⟩ : BufTy).Contents (Elt F) → (⟨S768x256, .f32⟩ : BufTy).Contents (Elt F) → (⟨S2x512x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S2x512x256 ![0, 1, 2] bcast_S1x1x256_S2x512x256_0_1_2 : (⟨S1x1x256, .f32⟩ : BufTy).Contents (Elt F) → (⟨S2x512x256, .f32⟩ : BufTy).Contents (Elt F)),
    binary main_v0 main_v2 main_v3 (addf : (⟨S2x512x256, .f32⟩ : BufTy).Contents (Elt F) → (⟨S2x512x256, .f32⟩ : BufTy).Contents (Elt F) → (⟨S2x512x256, .f32⟩ : BufTy).Contents (Elt F)),
    reshape main_v3 main_v4 (rfl : (.f32 : EltTy) = .f32) shapeCasts_S2x512x256_S2x512x2x128,
    unary main_v4 main_v5 ((extractStridedSlice S2x512x1x128 ![0, 0, 0, 0] · slices_S2x512x2x128_S2x512x1x128_0_0_0_0) : (⟨S2x512x2x128, .f32⟩ : BufTy).Contents (Elt F) → (⟨S2x512x1x128, .f32⟩ : BufTy).Contents (Elt F)),
    reshape main_v5 main_v6 (rfl : (.f32 : EltTy) = .f32) shapeCasts_S2x512x1x128_S2x512x128,
    unary main_arg3 main_v7 ((extractStridedSlice S1x1024x128 ![0, 0, 0] · slices_S2x1024x128_S1x1024x128_0_0_0) : (⟨S2x1024x128, .f32⟩ : BufTy).Contents (Elt F) → (⟨S1x1024x128, .f32⟩ : BufTy).Contents (Elt F)),
    reshape main_v7 main_v8 (rfl : (.f32 : EltTy) = .f32) shapeCasts_S1x1024x128_S1024x128,
    unary main_v6 main_v9 (broadcastInDim S2x512x1x128 ![0, 1, 3] bcast_S2x512x128_S2x512x1x128_0_1_3 : (⟨S2x512x128, .f32⟩ : BufTy).Contents (Elt F) → (⟨S2x512x1x128, .f32⟩ : BufTy).Contents (Elt F)),
    unary main_v8 main_v10 (broadcastInDim S1x1x1024x128 ![2, 3] bcast_S1024x128_S1x1x1024x128_2_3 : (⟨S1024x128, .f32⟩ : BufTy).Contents (Elt F) → (⟨S1x1x1024x128, .f32⟩ : BufTy).Contents (Elt F)),
    unary main_v9 main_v11 (broadcastInDim S2x512x1024x128 ![0, 1, 2, 3] bcast_S2x512x1x128_S2x512x1024x128_0_1_2_3 : (⟨S2x512x1x128, .f32⟩ : BufTy).Contents (Elt F) → (⟨S2x512x1024x128, .f32⟩ : BufTy).Contents (Elt F)),
    unary main_v10 main_v12 (broadcastInDim S2x512x1024x128 ![0, 1, 2, 3] bcast_S1x1x1024x128_S2x512x1024x128_0_1_2_3 : (⟨S1x1x1024x128, .f32⟩ : BufTy).Contents (Elt F) → (⟨S2x512x1024x128, .f32⟩ : BufTy).Contents (Elt F)),
    binary main_v11 main_v12 main_v13 (subf : (⟨S2x512x1024x128, .f32⟩ : BufTy).Contents (Elt F) → (⟨S2x512x1024x128, .f32⟩ : BufTy).Contents (Elt F) → (⟨S2x512x1024x128, .f32⟩ : BufTy).Contents (Elt F)),
    binary main_v13 main_v13 main_v14 (mulf : (⟨S2x512x1024x128, .f32⟩ : BufTy).Contents (Elt F) → (⟨S2x512x1024x128, .f32⟩ : BufTy).Contents (Elt F) → (⟨S2x512x1024x128, .f32⟩ : BufTy).Contents (Elt F)),
    nullary main_cst (constant S_ .f32 0x00000000#32),
    binary main_v14 main_cst main_v15 ((fun x v => Host.reduceAdd x v reducesTo_S2x512x1024x128_S2x512x1024_d3 h_S_) : (⟨S2x512x1024x128, .f32⟩ : BufTy).Contents (Elt F) → (⟨S_, .f32⟩ : BufTy).Contents (Elt F) → (⟨S2x512x1024, .f32⟩ : BufTy).Contents (Elt F)),
    TRef.nullary (TRef.of (T := ⟨S2x512x1024, .i32⟩) main_call0_v0) (iotaInDim S2x512x1024 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S2x512x1024, .f32⟩) main_v15) (TRef.of (T := ⟨S2x512x1024, .i32⟩) main_call0_v0) (TRef.of (T := ⟨S_, .f32⟩) main_call0_cst) (TRef.of (T := ⟨S_, .i32⟩) main_call0_c) (TRef.of (T := ⟨S2x512, .f32⟩) main_call0_v1_0) argV,
    TRef.quaternary (TRef.of (T := ⟨S2x512x1024, .f32⟩) main_v15) (TRef.of (T := ⟨S2x512x1024, .i32⟩) main_call0_v0) (TRef.of (T := ⟨S_, .f32⟩) main_call0_cst) (TRef.of (T := ⟨S_, .i32⟩) main_call0_c) (TRef.of (T := ⟨S2x512, .i32⟩) main_v16) argI,
    TRef.unary (TRef.of (T := ⟨S2x512, .i32⟩) main_v16) (TRef.of (T := ⟨S2x512x1, .i32⟩) main_call1_v0) (broadcastInDim S2x512x1 ![0, 1] bcast_S2x512_S2x512x1_0_1),
    TRef.nullary (TRef.of (T := ⟨S1x1x1024, .i32⟩) main_call1_v1) (iotaInDim S1x1x1024 32 2),
    TRef.unary (TRef.of (T := ⟨S2x512x1, .i32⟩) main_call1_v0) (TRef.of (T := ⟨S2x512x1024, .i32⟩) main_call1_v2) (broadcastInDim S2x512x1024 ![0, 1, 2] bcast_S2x512x1_S2x512x1024_0_1_2),
    TRef.unary (TRef.of (T := ⟨S1x1x1024, .i32⟩) main_call1_v1) (TRef.of (T := ⟨S2x512x1024, .i32⟩) main_call1_v3) (broadcastInDim S2x512x1024 ![0, 1, 2] bcast_S1x1x1024_S2x512x1024_0_1_2),
    TRef.binary (TRef.of (T := ⟨S2x512x1024, .i32⟩) main_call1_v2) (TRef.of (T := ⟨S2x512x1024, .i32⟩) main_call1_v3) (TRef.of (T := ⟨S2x512x1024, .i1⟩) main_call1_v4) (cmpi .eq),
    TRef.unary (TRef.of (T := ⟨S2x512x1024, .i1⟩) main_call1_v4) (TRef.of (T := ⟨S2x512x1024, .f32⟩) main_v17) (uitofp .f32),
    binary main_v17 main_v8 main_v18 ((fun l r => Host.dotGeneral dot_S2x512x1024_S1024x128_S2x512x128_2_0_01_1_n_n none l r) : (⟨S2x512x1024, .f32⟩ : BufTy).Contents (Elt F) → (⟨S1024x128, .f32⟩ : BufTy).Contents (Elt F) → (⟨S2x512x128, .f32⟩ : BufTy).Contents (Elt F)),
    unary main_v4 main_v19 ((extractStridedSlice S2x512x1x128 ![0, 0, 1, 0] · slices_S2x512x2x128_S2x512x1x128_0_0_1_0) : (⟨S2x512x2x128, .f32⟩ : BufTy).Contents (Elt F) → (⟨S2x512x1x128, .f32⟩ : BufTy).Contents (Elt F)),
    reshape main_v19 main_v20 (rfl : (.f32 : EltTy) = .f32) shapeCasts_S2x512x1x128_S2x512x128,
    unary main_arg3 main_v21 ((extractStridedSlice S1x1024x128 ![1, 0, 0] · slices_S2x1024x128_S1x1024x128_1_0_0) : (⟨S2x1024x128, .f32⟩ : BufTy).Contents (Elt F) → (⟨S1x1024x128, .f32⟩ : BufTy).Contents (Elt F)),
    reshape main_v21 main_v22 (rfl : (.f32 : EltTy) = .f32) shapeCasts_S1x1024x128_S1024x128,
    unary main_v20 main_v23 (broadcastInDim S2x512x1x128 ![0, 1, 3] bcast_S2x512x128_S2x512x1x128_0_1_3 : (⟨S2x512x128, .f32⟩ : BufTy).Contents (Elt F) → (⟨S2x512x1x128, .f32⟩ : BufTy).Contents (Elt F)),
    unary main_v22 main_v24 (broadcastInDim S1x1x1024x128 ![2, 3] bcast_S1024x128_S1x1x1024x128_2_3 : (⟨S1024x128, .f32⟩ : BufTy).Contents (Elt F) → (⟨S1x1x1024x128, .f32⟩ : BufTy).Contents (Elt F)),
    unary main_v23 main_v25 (broadcastInDim S2x512x1024x128 ![0, 1, 2, 3] bcast_S2x512x1x128_S2x512x1024x128_0_1_2_3 : (⟨S2x512x1x128, .f32⟩ : BufTy).Contents (Elt F) → (⟨S2x512x1024x128, .f32⟩ : BufTy).Contents (Elt F)),
    unary main_v24 main_v26 (broadcastInDim S2x512x1024x128 ![0, 1, 2, 3] bcast_S1x1x1024x128_S2x512x1024x128_0_1_2_3 : (⟨S1x1x1024x128, .f32⟩ : BufTy).Contents (Elt F) → (⟨S2x512x1024x128, .f32⟩ : BufTy).Contents (Elt F)),
    binary main_v25 main_v26 main_v27 (subf : (⟨S2x512x1024x128, .f32⟩ : BufTy).Contents (Elt F) → (⟨S2x512x1024x128, .f32⟩ : BufTy).Contents (Elt F) → (⟨S2x512x1024x128, .f32⟩ : BufTy).Contents (Elt F)),
    binary main_v27 main_v27 main_v28 (mulf : (⟨S2x512x1024x128, .f32⟩ : BufTy).Contents (Elt F) → (⟨S2x512x1024x128, .f32⟩ : BufTy).Contents (Elt F) → (⟨S2x512x1024x128, .f32⟩ : BufTy).Contents (Elt F)),
    nullary main_cst_0 (constant S_ .f32 0x00000000#32),
    binary main_v28 main_cst_0 main_v29 ((fun x v => Host.reduceAdd x v reducesTo_S2x512x1024x128_S2x512x1024_d3 h_S_) : (⟨S2x512x1024x128, .f32⟩ : BufTy).Contents (Elt F) → (⟨S_, .f32⟩ : BufTy).Contents (Elt F) → (⟨S2x512x1024, .f32⟩ : BufTy).Contents (Elt F)),
    TRef.nullary (TRef.of (T := ⟨S2x512x1024, .i32⟩) main_call2_v0) (iotaInDim S2x512x1024 32 2),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S2x512x1024, .f32⟩) main_v29) (TRef.of (T := ⟨S2x512x1024, .i32⟩) main_call2_v0) (TRef.of (T := ⟨S_, .f32⟩) main_call2_cst) (TRef.of (T := ⟨S_, .i32⟩) main_call2_c) (TRef.of (T := ⟨S2x512, .f32⟩) main_call2_v1_0) argV,
    TRef.quaternary (TRef.of (T := ⟨S2x512x1024, .f32⟩) main_v29) (TRef.of (T := ⟨S2x512x1024, .i32⟩) main_call2_v0) (TRef.of (T := ⟨S_, .f32⟩) main_call2_cst) (TRef.of (T := ⟨S_, .i32⟩) main_call2_c) (TRef.of (T := ⟨S2x512, .i32⟩) main_v30) argI,
    TRef.unary (TRef.of (T := ⟨S2x512, .i32⟩) main_v30) (TRef.of (T := ⟨S2x512x1, .i32⟩) main_call3_v0) (broadcastInDim S2x512x1 ![0, 1] bcast_S2x512_S2x512x1_0_1),
    TRef.nullary (TRef.of (T := ⟨S1x1x1024, .i32⟩) main_call3_v1) (iotaInDim S1x1x1024 32 2),
    TRef.unary (TRef.of (T := ⟨S2x512x1, .i32⟩) main_call3_v0) (TRef.of (T := ⟨S2x512x1024, .i32⟩) main_call3_v2) (broadcastInDim S2x512x1024 ![0, 1, 2] bcast_S2x512x1_S2x512x1024_0_1_2),
    TRef.unary (TRef.of (T := ⟨S1x1x1024, .i32⟩) main_call3_v1) (TRef.of (T := ⟨S2x512x1024, .i32⟩) main_call3_v3) (broadcastInDim S2x512x1024 ![0, 1, 2] bcast_S1x1x1024_S2x512x1024_0_1_2),
    TRef.binary (TRef.of (T := ⟨S2x512x1024, .i32⟩) main_call3_v2) (TRef.of (T := ⟨S2x512x1024, .i32⟩) main_call3_v3) (TRef.of (T := ⟨S2x512x1024, .i1⟩) main_call3_v4) (cmpi .eq),
    TRef.unary (TRef.of (T := ⟨S2x512x1024, .i1⟩) main_call3_v4) (TRef.of (T := ⟨S2x512x1024, .f32⟩) main_v31) (uitofp .f32),
    binary main_v31 main_v22 main_v32 ((fun l r => Host.dotGeneral dot_S2x512x1024_S1024x128_S2x512x128_2_0_01_1_n_n none l r) : (⟨S2x512x1024, .f32⟩ : BufTy).Contents (Elt F) → (⟨S1024x128, .f32⟩ : BufTy).Contents (Elt F) → (⟨S2x512x128, .f32⟩ : BufTy).Contents (Elt F)),
    unary main_v15 main_v33 (broadcastInDim S1x2x512x1024 ![1, 2, 3] bcast_S2x512x1024_S1x2x512x1024_1_2_3 : (⟨S2x512x1024, .f32⟩ : BufTy).Contents (Elt F) → (⟨S1x2x512x1024, .f32⟩ : BufTy).Contents (Elt F)),
    unary main_v29 main_v34 (broadcastInDim S1x2x512x1024 ![1, 2, 3] bcast_S2x512x1024_S1x2x512x1024_1_2_3 : (⟨S2x512x1024, .f32⟩ : BufTy).Contents (Elt F) → (⟨S1x2x512x1024, .f32⟩ : BufTy).Contents (Elt F)),
    binary main_v33 main_v34 main_v35 (catD (F := F)),
    unary main_v17 main_v36 (broadcastInDim S1x2x512x1024 ![1, 2, 3] bcast_S2x512x1024_S1x2x512x1024_1_2_3 : (⟨S2x512x1024, .f32⟩ : BufTy).Contents (Elt F) → (⟨S1x2x512x1024, .f32⟩ : BufTy).Contents (Elt F)),
    unary main_v31 main_v37 (broadcastInDim S1x2x512x1024 ![1, 2, 3] bcast_S2x512x1024_S1x2x512x1024_1_2_3 : (⟨S2x512x1024, .f32⟩ : BufTy).Contents (Elt F) → (⟨S1x2x512x1024, .f32⟩ : BufTy).Contents (Elt F)),
    binary main_v36 main_v37 main_v38 (catD (F := F)),
    binary main_v18 main_v32 main_v39 (catQ (F := F)),
    nullary main_cst_1 (constant S_ .f32 0x00000000#32),
    binary main_v38 main_cst_1 main_v40 ((fun x v => Host.reduceAdd x v reducesTo_S2x2x512x1024_S2x1024_d1_2 h_S_) : (⟨S2x2x512x1024, .f32⟩ : BufTy).Contents (Elt F) → (⟨S_, .f32⟩ : BufTy).Contents (Elt F) → (⟨S2x1024, .f32⟩ : BufTy).Contents (Elt F)),
    nullary main_cst_2 (constant S_ .f32 0x44800000#32),
    unary main_cst_2 main_v41 (broadcastInDim S2x1024 ![] bcast_S_S2x1024 : (⟨S_, .f32⟩ : BufTy).Contents (Elt F) → (⟨S2x1024, .f32⟩ : BufTy).Contents (Elt F)),
    binary main_v40 main_v41 main_v42 (Host.divf : (⟨S2x1024, .f32⟩ : BufTy).Contents (Elt F) → (⟨S2x1024, .f32⟩ : BufTy).Contents (Elt F) → (⟨S2x1024, .f32⟩ : BufTy).Contents (Elt F)),
    nullary main_cst_3 (constant S_ .f32 0x2EDBE6FF#32),
    nullary main_cst_4 (constant S_ .f32 0x3F800000#32),
    TRef.unary (TRef.of (T := ⟨S_, .f32⟩) main_cst_3) (TRef.of (T := ⟨S_, .f32⟩) main_call4_v0) id,
    TRef.unary (TRef.of (T := ⟨S_, .f32⟩) main_call4_v0) (TRef.of (T := ⟨S2x1024, .f32⟩) main_call4_v1) (broadcastInDim S2x1024 ![] bcast_S_S2x1024),
    TRef.binary (TRef.of (T := ⟨S2x1024, .f32⟩) main_call4_v1) (TRef.of (T := ⟨S2x1024, .f32⟩) main_v42) (TRef.of (T := ⟨S2x1024, .f32⟩) main_call4_v2) maximumf,
    TRef.unary (TRef.of (T := ⟨S_, .f32⟩) main_cst_4) (TRef.of (T := ⟨S_, .f32⟩) main_call4_v3) id,
    TRef.unary (TRef.of (T := ⟨S_, .f32⟩) main_call4_v3) (TRef.of (T := ⟨S2x1024, .f32⟩) main_call4_v4) (broadcastInDim S2x1024 ![] bcast_S_S2x1024),
    TRef.binary (TRef.of (T := ⟨S2x1024, .f32⟩) main_call4_v4) (TRef.of (T := ⟨S2x1024, .f32⟩) main_call4_v2) (TRef.of (T := ⟨S2x1024, .f32⟩) main_v43) minimumf,
    nullary main_cst_5 (constant S_ .f32 0x2EDBE6FF#32),
    unary main_cst_5 main_v44 (broadcastInDim S2x1024 ![] bcast_S_S2x1024 : (⟨S_, .f32⟩ : BufTy).Contents (Elt F) → (⟨S2x1024, .f32⟩ : BufTy).Contents (Elt F)),
    binary main_v43 main_v44 main_v45 (addf : (⟨S2x1024, .f32⟩ : BufTy).Contents (Elt F) → (⟨S2x1024, .f32⟩ : BufTy).Contents (Elt F) → (⟨S2x1024, .f32⟩ : BufTy).Contents (Elt F)),
    unary main_v45 main_v46 (Host.log : (⟨S2x1024, .f32⟩ : BufTy).Contents (Elt F) → (⟨S2x1024, .f32⟩ : BufTy).Contents (Elt F)),
    binary main_v43 main_v46 main_v47 (mulf : (⟨S2x1024, .f32⟩ : BufTy).Contents (Elt F) → (⟨S2x1024, .f32⟩ : BufTy).Contents (Elt F) → (⟨S2x1024, .f32⟩ : BufTy).Contents (Elt F)),
    nullary main_cst_6 (constant S_ .f32 0x00000000#32),
    binary main_v47 main_cst_6 main_v48 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    unary main_v48 main_v49 (Host.negf : (⟨S2, .f32⟩ : BufTy).Contents (Elt F) → (⟨S2, .f32⟩ : BufTy).Contents (Elt F)),
    unary main_v49 main_v50 (Host.exp : (⟨S2, .f32⟩ : BufTy).Contents (Elt F) → (⟨S2, .f32⟩ : BufTy).Contents (Elt F)),
    nullary main_cst_7 (constant S_ .f32 0x00000000#32),
    binary main_v50 main_cst_7 main_v51 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_8 (constant S_ .f32 0x40000000#32),
    binary main_v51 main_cst_8 main_v52 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is the run of its operations. -/
theorem main_eq (c : Dev nD) : main (F := F) c = seq ops := rfl
/-- Nothing is scoped: no buffer. -/
theorem noBufs : (Finset.univ.filter fun b : Ref sig .tc => b.isScoped) = ∅ := by decide
/-- Nothing is scoped: no semaphore. -/
theorem noSems : (Finset.univ.filter fun sm : SemLoc sig => sm.isScoped .tc) = ∅ := by decide
set_option maxRecDepth 8192 in
/-- Every operation touches arrays of the TensorCore only. -/
theorem ops_sub : (ops : List (HloOp τ sig (Elt F))).Forall fun op => op.bufs ⊆ tcRefs τ sig :=
  ⟨binary_bufs_sub .., unary_bufs_sub .., unary_bufs_sub .., binary_bufs_sub .., reshape_bufs_sub .., unary_bufs_sub .., reshape_bufs_sub .., unary_bufs_sub .., reshape_bufs_sub .., unary_bufs_sub .., unary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., binary_bufs_sub .., nullary_bufs_sub .., binary_bufs_sub ..⟩

set_option maxRecDepth 8192 in
set_option maxHeartbeats 32000000 in
/-- The fold of the operations at `main_v39`. -/
theorem quant_eq (V : Valuation τ sig (Elt F)) :
    after ops V (Proc.devRef .tc main_v39) = quantR (V (Proc.devRef .tc main_arg0)) (V (Proc.devRef .tc main_arg1)) (V (Proc.devRef .tc main_arg2)) (V (Proc.devRef .tc main_arg3)) := by
  simp only [ops, TRef.binary, TRef.nullary, TRef.unary, TRef.quaternary, TRef.toBuf, TRef.ofBuf, cast_eq]
  after_results_simp <;> rfl

set_option maxRecDepth 8192 in
set_option maxHeartbeats 32000000 in
/-- The fold of the operations at `main_v38`. -/
theorem enc_eq (V : Valuation τ sig (Elt F)) :
    after ops V (Proc.devRef .tc main_v38) = encR (V (Proc.devRef .tc main_arg0)) (V (Proc.devRef .tc main_arg1)) (V (Proc.devRef .tc main_arg2)) (V (Proc.devRef .tc main_arg3)) := by
  simp only [ops, TRef.binary, TRef.nullary, TRef.unary, TRef.quaternary, TRef.toBuf, TRef.ofBuf, cast_eq]
  after_results_simp <;> rfl

set_option maxRecDepth 8192 in
set_option maxHeartbeats 32000000 in
/-- The fold of the operations at `main_v35`. -/
theorem dist_eq (V : Valuation τ sig (Elt F)) :
    after ops V (Proc.devRef .tc main_v35) = distR (V (Proc.devRef .tc main_arg0)) (V (Proc.devRef .tc main_arg1)) (V (Proc.devRef .tc main_arg2)) (V (Proc.devRef .tc main_arg3)) := by
  simp only [ops, TRef.binary, TRef.nullary, TRef.unary, TRef.quaternary, TRef.toBuf, TRef.ofBuf, cast_eq]
  after_results_simp <;> rfl

set_option maxRecDepth 8192 in
set_option maxHeartbeats 32000000 in
/-- The fold of the operations at `main_v52`. -/
theorem ppl_eq (V : Valuation τ sig (Elt F)) :
    after ops V (Proc.devRef .tc main_v52) = pplR (V (Proc.devRef .tc main_arg0)) (V (Proc.devRef .tc main_arg1)) (V (Proc.devRef .tc main_arg2)) (V (Proc.devRef .tc main_arg3)) := by
  simp only [ops, TRef.binary, TRef.nullary, TRef.unary, TRef.quaternary, TRef.toBuf, TRef.ofBuf, cast_eq]
  after_results_simp <;> rfl

set_option maxRecDepth 8192 in
set_option maxHeartbeats 32000000 in
/-- The fold of the operations at `main_arg0`. -/
theorem arg0_eq (V : Valuation τ sig (Elt F)) :
    after ops V (Proc.devRef .tc main_arg0) = V (Proc.devRef .tc main_arg0) := by
  simp only [ops, TRef.binary, TRef.nullary, TRef.unary, TRef.quaternary, TRef.toBuf, TRef.ofBuf, cast_eq]
  after_results_simp <;> rfl

set_option maxRecDepth 8192 in
set_option maxHeartbeats 32000000 in
/-- The fold of the operations at `main_arg1`. -/
theorem arg1_eq (V : Valuation τ sig (Elt F)) :
    after ops V (Proc.devRef .tc main_arg1) = V (Proc.devRef .tc main_arg1) := by
  simp only [ops, TRef.binary, TRef.nullary, TRef.unary, TRef.quaternary, TRef.toBuf, TRef.ofBuf, cast_eq]
  after_results_simp <;> rfl

set_option maxRecDepth 8192 in
set_option maxHeartbeats 32000000 in
/-- The fold of the operations at `main_arg2`. -/
theorem arg2_eq (V : Valuation τ sig (Elt F)) :
    after ops V (Proc.devRef .tc main_arg2) = V (Proc.devRef .tc main_arg2) := by
  simp only [ops, TRef.binary, TRef.nullary, TRef.unary, TRef.quaternary, TRef.toBuf, TRef.ofBuf, cast_eq]
  after_results_simp <;> rfl

set_option maxRecDepth 8192 in
set_option maxHeartbeats 32000000 in
/-- The fold of the operations at `main_arg3`. -/
theorem arg3_eq (V : Valuation τ sig (Elt F)) :
    after ops V (Proc.devRef .tc main_arg3) = V (Proc.devRef .tc main_arg3) := by
  simp only [ops, TRef.binary, TRef.nullary, TRef.unary, TRef.quaternary, TRef.toBuf, TRef.ofBuf, cast_eq]
  after_results_simp <;> rfl

/-- Every run of the reference ends, each result its function of the arguments, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = quantR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v38) = encR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v35) = distR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v52) = pplR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v39).trans (quant_eq _), (h c main_v38).trans (enc_eq _), (h c main_v35).trans (dist_eq _), (h c main_v52).trans (ppl_eq _), (h c main_arg0).trans (arg0_eq _), (h c main_arg1).trans (arg1_eq _), (h c main_arg2).trans (arg2_eq _), (h c main_arg3).trans (arg3_eq _)⟩)
    (run_seq noBufs noSems defs main (fun _ => ops) main_eq (fun _ => ops_sub) m ρ)

end Cert.Proof.Vq.Ref

end
-- ==== Proof.Vq.RefRead.lean ====
/-
  The reference's four results, entry by entry, in closed form over the extended reals: its squared distances, the first
  nearest code of each position as its argmin finds it, the one-hot rows, the chosen codes and the perplexity. No
  condition on the arguments.
-/
module

public import proofs.«01_k».proof.Proof.Vq.RefRun
public import proofs.«01_k».proof.Proof.Vq.Spec
public import Idealize.ShloMosaic.Lib.Pointwise

@[expose] public section

set_option maxRecDepth 16384

noncomputable section

namespace Cert.Proof.Vq.Ref

open Cert.ReferenceIdeal Cert.ReferenceIdeal.Gen
open Idealize.ShloMosaic

variable (H : Vec Ideal S2x512x768 .f32) (W : Vec Ideal S768x256 .f32) (b : Vec Ideal S256 .f32) (C : Vec Ideal S2x1024x128 .f32)

/-! ## The pieces -/

theorem hidR_at (s : Fin 2) (t : Fin 512) (g : Fin 2) (x : Fin 128) : hidR H W b (ix4 s t g x) = hRow H W b s t (gcol g x) := by
  unfold hidR hRow gcol; pointwise

theorem hid0_at (x : Vec Ideal S2x512x2x128 .f32) (s : Fin 2) (t : Fin 512) (l : Fin 128) : hid0 x (ix3 s t l) = x (ix4 s t 0 l) := by
  unfold hid0; pointwise

theorem hid1_at (x : Vec Ideal S2x512x2x128 .f32) (s : Fin 2) (t : Fin 512) (l : Fin 128) : hid1 x (ix3 s t l) = x (ix4 s t 1 l) := by
  unfold hid1; pointwise

theorem code0_at (k : Fin 1024) (l : Fin 128) : code0 C (ix2 k l) = C (ix3 0 k l) := by unfold code0; pointwise

theorem code1_at (k : Fin 1024) (l : Fin 128) : code1 C (ix2 k l) = C (ix3 1 k l) := by unfold code1; pointwise

theorem sqR_at (h : Vec Ideal S2x512x128 .f32) (c : Vec Ideal S1024x128 .f32) (s : Fin 2) (t : Fin 512) (k : Fin 1024) :
    sqR h c (ix3 s t k) = ∑ x : Fin 128, (h (ix3 s t x) - c (ix2 k x)) * (h (ix3 s t x) - c (ix2 k x)) := by
  unfold sqR diffR; pointwise

theorem d0_at (s : Fin 2) (t : Fin 512) (k : Fin 1024) : d0 H W b C (ix3 s t k) = sqD H W b C 0 s t k := by
  unfold d0 sqD
  rw [sqR_at]
  simp only [hid0_at, hidR_at, code0_at]

theorem d1_at (s : Fin 2) (t : Fin 512) (k : Fin 1024) : d1 H W b C (ix3 s t k) = sqD H W b C 1 s t k := by
  unfold d1 sqD
  rw [sqR_at]
  simp only [hid1_at, hidR_at, code1_at]

/-- Two stacked arrays at an entry. -/
theorem catD_at (x y : Vec Ideal S2x512x1024 .f32) (g s : Fin 2) (t : Fin 512) (k : Fin 1024) :
    catD (leadR x) (leadR y) (ix4 g s t k) = if g = 0 then x (ix3 s t k) else y (ix3 s t k) := by
  have hg : g = 0 ∨ g = 1 := by omega
  rcases hg with rfl | rfl
  · unfold catD leadR; pointwise
  · unfold catD leadR; pointwise

/-- The argmin finds the first index at which a row is least. -/
theorem argR_at (d : Vec Ideal S2x512x1024 .f32) (s : Fin 2) (t : Fin 512) :
    argR d (ix2 s t) = BitVec.ofNat 32 (near fun k => d (ix3 s t k)).val := by
  have hd : ∀ i : S2x512x1024.Idx, reducesTo_S2x512x1024_S2x512_d2.drop i = ix2 (i 0) (i 1) := fun i => by
    funext a
    match a with
    | ⟨0, _⟩ => rfl
    | ⟨1, _⟩ => rfl
  have hL : ∀ p : EReal × BitVec 32, p ∈ Host.argReduceFiber d (iotaInDim S2x512x1024 32 2) reducesTo_S2x512x1024_S2x512_d2 (ix2 s t)
      ↔ ∃ k : Fin 1024, p = (d (ix3 s t k), BitVec.ofNat 32 k.val) := by
    intro p
    unfold Host.argReduceFiber
    simp only [List.mem_map, List.mem_filter, List.mem_finRange, true_and, decide_eq_true_eq]
    constructor
    · rintro ⟨n, hn, rfl⟩
      rw [hd] at hn
      refine ⟨S2x512x1024.rowMajor.symm n 2, ?_⟩
      have e : S2x512x1024.rowMajor.symm n = ix3 s t (S2x512x1024.rowMajor.symm n 2) := by
        have e0 := congrFun hn 0
        have e1 := congrFun hn 1
        funext a
        match a with
        | ⟨0, _⟩ => exact e0
        | ⟨1, _⟩ => exact e1
        | ⟨2, _⟩ => rfl
      exact Prod.ext (congrArg d e) rfl
    · rintro ⟨k, rfl⟩
      refine ⟨S2x512x1024.rowMajor (ix3 s t k), ?_, ?_⟩
      · rw [Equiv.symm_apply_apply, hd]; rfl
      · rw [Equiv.symm_apply_apply]; rfl
  obtain ⟨k, hk, e⟩ := first_of_foldl (fun k => d (ix3 s t k)) _ hL
  rw [← near_eq hk, ← e]
  unfold argR argI
  rw [Ideal.argReduce_eq_reduce2, Host.reduce2_eq_foldl_fiber]
  have et : (constant (F := Ideal) S_ .f32 0x7F800000#32) (Shape.Idx.first h_S_) = (⊤ : EReal) := ofBits_top
  have ez : (constantI S_ 32 0#32 : Vec Ideal S_ .i32) (Shape.Idx.first h_S_) = 0#32 := rfl
  rw [et, ez]

theorem uitofp_bit (p : Bool) : (FloatOps.uitofp (F := Ideal) .f32 (BitVec.ofBool p) : EReal) = if p then 1 else 0 := by
  cases p
  · show ((((BitVec.ofBool false).toNat : ℝ)) : EReal) = _
    simp
  · show ((((BitVec.ofBool true).toNat : ℝ)) : EReal) = _
    simp

theorem hotR_at (i : Vec Ideal S2x512 .i32) (s : Fin 2) (t : Fin 512) (l k : Fin 1024) (h : i (ix2 s t) = BitVec.ofNat 32 l.val) :
    hotR i (ix3 s t k) = oneAt l k := by
  unfold hotR
  pointwise
  rw [h]
  refine (uitofp_bit _).trans ?_
  unfold oneAt
  by_cases e : k = l
  · subst e; simp
  · rw [if_neg e]
    have : ¬ BitVec.ofNat 32 l.val = BitVec.ofNat 32 k.val := fun h => e (word_inj h).symm
    simp [this]

theorem pickR_at (e : Vec Ideal S2x512x1024 .f32) (c : Vec Ideal S1024x128 .f32) (s : Fin 2) (t : Fin 512) (l : Fin 128) :
    pickR e c (ix3 s t l) = ∑ x : Fin 1024, e (ix3 s t x) * c (ix2 x l) := by
  unfold pickR; pointwise

/-! ## The results -/

theorem distR_at (g s : Fin 2) (t : Fin 512) (k : Fin 1024) : distR H W b C (ix4 g s t k) = sqD H W b C g s t k := by
  unfold distR
  rw [catD_at, d0_at, d1_at]
  have hg : g = 0 ∨ g = 1 := by omega
  rcases hg with rfl | rfl
  · rw [if_pos rfl]
  · rw [if_neg (by decide)]

theorem hot0_at (s : Fin 2) (t : Fin 512) (k : Fin 1024) : hotR (argR (d0 H W b C)) (ix3 s t k) = oneAt (code H W b C 0 s t) k := by
  refine hotR_at _ s t _ k ((argR_at _ s t).trans ?_)
  rw [show (fun k => d0 H W b C (ix3 s t k)) = sqD H W b C 0 s t from funext fun k => d0_at H W b C s t k]
  rfl

theorem hot1_at (s : Fin 2) (t : Fin 512) (k : Fin 1024) : hotR (argR (d1 H W b C)) (ix3 s t k) = oneAt (code H W b C 1 s t) k := by
  refine hotR_at _ s t _ k ((argR_at _ s t).trans ?_)
  rw [show (fun k => d1 H W b C (ix3 s t k)) = sqD H W b C 1 s t from funext fun k => d1_at H W b C s t k]
  rfl

theorem encR_at (g s : Fin 2) (t : Fin 512) (k : Fin 1024) : encR H W b C (ix4 g s t k) = oneAt (code H W b C g s t) k := by
  unfold encR
  rw [catD_at, hot0_at, hot1_at]
  have hg : g = 0 ∨ g = 1 := by omega
  rcases hg with rfl | rfl
  · rw [if_pos rfl]
  · rw [if_neg (by decide)]

theorem quantR_at (s : Fin 2) (t : Fin 512) (j : Fin 256) :
    quantR H W b C (ix3 s t j) = C (ix3 (colG j) (code H W b C (colG j) s t) (colX j)) := by
  unfold quantR
  have h0 : ∀ l, pickR (hotR (argR (d0 H W b C))) (code0 C) (ix3 s t l) = C (ix3 0 (code H W b C 0 s t) l) := fun l => by
    rw [pickR_at]
    simp only [hot0_at, code0_at]
    exact sum_oneAt _ _
  have h1 : ∀ l, pickR (hotR (argR (d1 H W b C))) (code1 C) (ix3 s t l) = C (ix3 1 (code H W b C 1 s t) l) := fun l => by
    rw [pickR_at]
    simp only [hot1_at, code1_at]
    exact sum_oneAt _ _
  generalize pickR (hotR (argR (d0 H W b C))) (code0 C) = p at *
  generalize pickR (hotR (argR (d1 H W b C))) (code1 C) = q at *
  unfold catQ
  pointwise [h0, h1]
  by_cases hj : j.val < 128
  · rw [dif_pos hj, show colG j = 0 from Fin.ext (by show j.val / 128 = 0; omega), show colX j = ⟨j.val, hj⟩ from Fin.ext (by show j.val % 128 = j.val; omega)]
  · have := j.isLt
    rw [dif_neg hj, show colG j = 1 from Fin.ext (by show j.val / 128 = 1; omega), show colX j = ⟨j.val - 128, by omega⟩ from Fin.ext (by show j.val % 128 = j.val - 128; omega)]

/-- A sum over the two middle axes of four, position by position. -/
theorem sum_mid (e : Vec Ideal S2x2x512x1024 .f32) (g : Fin 2) (k : Fin 1024) :
    Ideal.hostReduceAdd reducesTo_S2x2x512x1024_S2x1024_d1_2 e 0 (ix2 g k) = ∑ s : Fin 2, ∑ t : Fin 512, e (ix4 g s t k) := by
  have hd : ∀ i : S2x2x512x1024.Idx, reducesTo_S2x2x512x1024_S2x1024_d1_2.drop i = ix2 (i 0) (i 3) := fun i => by
    funext a
    match a with
    | ⟨0, _⟩ => rfl
    | ⟨1, _⟩ => rfl
  rw [← Fintype.sum_prod_type']
  show 0 + ∑ i ∈ Finset.univ.filter (fun i => reducesTo_S2x2x512x1024_S2x1024_d1_2.drop i = ix2 g k), e i = _
  rw [zero_add]
  symm
  refine Finset.sum_nbij' (fun p : Fin 2 × Fin 512 => (ix4 g p.1 p.2 k : S2x2x512x1024.Idx)) (fun i : S2x2x512x1024.Idx => ((i 1, i 2) : Fin 2 × Fin 512)) ?_ ?_ ?_ ?_ ?_
  · intro p _
    exact Finset.mem_filter.mpr ⟨Finset.mem_univ _, hd _⟩
  · intro i _
    exact Finset.mem_univ _
  · intro p _; rfl
  · intro i hi
    have h := (Finset.mem_filter.mp hi).2
    rw [hd] at h
    have e0 := congrFun h 0
    have e1 := congrFun h 1
    funext a
    match a with
    | ⟨0, _⟩ => exact e0.symm
    | ⟨1, _⟩ => rfl
    | ⟨2, _⟩ => rfl
    | ⟨3, _⟩ => exact e1.symm
  · intro p _; rfl

theorem clipR_at (e : Vec Ideal S2x2x512x1024 .f32) (g : Fin 2) (k : Fin 1024) :
    clipR (meanR e) (ix2 g k) = clipK (∑ s : Fin 2, ∑ t : Fin 512, e (ix4 g s t k)) := by
  unfold clipR meanR clipK
  pointwise
  rw [← div_1024, ← sum_mid]
  have e1 : (constant (F := Ideal) S_ .f32 0x3F800000#32) ix0 = (1 : EReal) := by pointwise
  show min ((constant (F := Ideal) S_ .f32 0x3F800000#32) ix0) _ = _
  rw [e1]
  rfl

theorem avgR_at (p : Vec Ideal S2x1024 .f32) : avgR (plxR p) ix0
    = Ideal.ofBits .f32 0x3F000000#32 * (Ideal.exp (0 - ∑ k : Fin 1024, entT (p (ix2 0 k))) + Ideal.exp (0 - ∑ k : Fin 1024, entT (p (ix2 1 k)))) := by
  rw [← div_two, zero_sub, zero_sub]
  unfold avgR plxR entT
  pointwise
  rw [Fin.sum_univ_two]

theorem pplR_at (j : S_.Idx) : pplR H W b C j = perS H W b C := by
  have hj : j = ix0 := funext fun a => a.elim0
  rw [hj]
  unfold pplR perS useS
  rw [avgR_at]
  simp only [clipR_at, encR_at]

end Cert.Proof.Vq.Ref

end
-- ==== Proof.Vq.Equal.lean ====
/-
  The kernel's four results are the reference's, under finite arguments: entry by entry, both being the closed forms.
-/
module

public import proofs.«01_k».proof.Proof.Vq.Value
public import proofs.«01_k».proof.Proof.Vq.RefRead

@[expose] public section

set_option maxRecDepth 16384

noncomputable section

namespace Cert.Proof.Vq

open Cert.KernelIdeal Cert.KernelIdeal.Gen
open Idealize.ShloMosaic Idealize.ShloMosaic.TcCoe

variable (m : (ℓ : Loc nD τ sig) → Buf (Elt Ideal) ℓ) (d : Dev nD)

/-- Every entry of the device's four arguments is a real number. -/
def RealArgs : Prop := (∀ j, IsReal (aH m d j)) ∧ (∀ j, IsReal (aW m d j)) ∧ (∀ j, IsReal (aB m d j)) ∧ (∀ j, IsReal (aC m d j))

variable {m d}

theorem kD_eq (h : RealArgs m d) (g s : Fin 2) (p : Fin 512) : kD m d g s p = sqD (aH m d) (aW m d) (aB m d) (aC m d) g s p :=
  expD_hRow _ _ _ _ h.1 h.2.1 h.2.2.1 h.2.2.2 g s p

theorem kCode_eq (h : RealArgs m d) (g s : Fin 2) (p : Fin 512) : kCode m d g s p = code (aH m d) (aW m d) (aB m d) (aC m d) g s p :=
  congrArg near (kD_eq h g s p)

/-- The distances. -/
theorem dist_eq (h : RealArgs m d) : (W7 m d (main_v5 : DevRef τ sig) : Vec Ideal S2x2x512x1024 .f32) = Ref.distR (aH m d) (aW m d) (aB m d) (aC m d) := by
  funext j
  have e := eq_ix4 j
  refine (congrArg (W7 m d (main_v5 : DevRef τ sig)) e).trans (((dist_at m d (j 0) (j 1) (j 2) (j 3)).trans ?_).trans
    ((Ref.distR_at (aH m d) (aW m d) (aB m d) (aC m d) (j 0) (j 1) (j 2) (j 3)).symm.trans (congrArg (Ref.distR (aH m d) (aW m d) (aB m d) (aC m d)) e.symm)))
  exact congrFun (kD_eq h (j 0) (j 1) (j 2)) (j 3)

/-- The one-hot rows. -/
theorem enc_eq (h : RealArgs m d) : (W7 m d (main_v6 : DevRef τ sig) : Vec Ideal S2x2x512x1024 .f32) = Ref.encR (aH m d) (aW m d) (aB m d) (aC m d) := by
  funext j
  have e := eq_ix4 j
  refine (congrArg (W7 m d (main_v6 : DevRef τ sig)) e).trans (((enc_at m d (j 0) (j 1) (j 2) (j 3)).trans ?_).trans
    ((Ref.encR_at (aH m d) (aW m d) (aB m d) (aC m d) (j 0) (j 1) (j 2) (j 3)).symm.trans (congrArg (Ref.encR (aH m d) (aW m d) (aB m d) (aC m d)) e.symm)))
  exact congrArg (fun i => oneAt i (j 3)) (kCode_eq h (j 0) (j 1) (j 2))

/-- The chosen codes, gathered by the SparseCore. -/
theorem quant_eq (h : RealArgs m d) : (W7 m d (main_v4 : DevRef τ sig) : Vec Ideal S2x512x256 .f32) = Ref.quantR (aH m d) (aW m d) (aB m d) (aC m d) := by
  funext j
  have e := eq_ix3 j
  refine (congrArg (W7 m d (main_v4 : DevRef τ sig)) e).trans (((quant_at m d (j 0) (j 1) (j 2)).trans ?_).trans
    ((Ref.quantR_at (aH m d) (aW m d) (aB m d) (aC m d) (j 0) (j 1) (j 2)).symm.trans (congrArg (Ref.quantR (aH m d) (aW m d) (aB m d) (aC m d)) e.symm)))
  exact congrArg (fun i => aC m d (ix3 (colG (j 2)) i (colX (j 2)))) (kCode_eq h (colG (j 2)) (j 0) (j 1))

/-- The perplexity. -/
theorem ppl_eq (h : RealArgs m d) : (W7 m d (main_v7 : DevRef τ sig) : Vec Ideal S_ .f32) = Ref.pplR (aH m d) (aW m d) (aB m d) (aC m d) := by
  funext j
  refine (ppl_at m d j).trans (Eq.trans ?_ (Ref.pplR_at (aH m d) (aW m d) (aB m d) (aC m d) j).symm)
  unfold perS useS
  simp only [kCode_eq h]

end Cert.Proof.Vq

end
-- ==== Proof.Vq.Finite.lean ====
/-
  What the precondition says: every entry of the four arguments is a real number.
-/
module

public import proofs.«01_k».proof.Proof.Gen.Pre_finite
public import proofs.«01_k».proof.Proof.Vq.Spec
public import Idealize.ShloMosaic.Lib.ReduceAll
public import Idealize.ShloMosaic.Lib.Pointwise

@[expose] public section

noncomputable section

namespace Cert.Proof.Vq

open Cert.Pre_finite Cert.Pre_finite.Gen
open Idealize.ShloMosaic

/-- An extended real whose absolute value compares below infinity is a real number. -/
theorem isReal_of_lt (x : EReal) (h : FloatOps.cmpf (F := Ideal) (φ := .f32) .olt (max x (-x)) (Ideal.ofBits .f32 0x7F800000#32) = 1#1) : IsReal x := by
  rw [ofBits_top] at h
  have hlt : max x (-x) < ⊤ := by
    by_contra hc
    simp [Ideal.cmpf_def, Ideal.cmp, hc] at h
  induction x using EReal.rec with
  | bot => simp at hlt
  | coe r => exact ⟨r, rfl⟩
  | top => simp at hlt

/-- Under the precondition every entry of every argument is a real number. -/
theorem of_finite (H : Vec Ideal S2x512x768 .f32) (W : Vec Ideal S768x256 .f32) (b : Vec Ideal S256 .f32) (C : Vec Ideal S2x1024x128 .f32)
    (h : Cert.Pre_finite.fn (F := Ideal) H W b C = fun _ => 1#1) :
    (∀ j, IsReal (H j)) ∧ (∀ j, IsReal (W j)) ∧ (∀ j, IsReal (b j)) ∧ (∀ j, IsReal (C j)) := by
  have h0 := congrFun h ix0
  unfold Cert.Pre_finite.fn Cert.Pre_finite.fn_part1 at h0
  simp only [andi_apply, IntOp.andi_eq_one] at h0
  obtain ⟨⟨⟨h1, h2⟩, h3⟩, h4⟩ := h0
  exact ⟨fun j => isReal_of_lt _ (Host.reduce_andi_all _ _ _ _ _ h1 j), fun j => isReal_of_lt _ (Host.reduce_andi_all _ _ _ _ _ h2 j),
    fun j => isReal_of_lt _ (Host.reduce_andi_all _ _ _ _ _ h3 j), fun j => isReal_of_lt _ (Host.reduce_andi_all _ _ _ _ _ h4 j)⟩

end Cert.Proof.Vq

end
-- ==== Proof.lean ====
/-
  The proof of `Cert.Claim`: the kernel's run (Vq/Main.lean) and the reference's (Vq/RefRun.lean), whose results are equal
  (Vq/Equal.lean) under the precondition (Vq/Finite.lean).
-/
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.Vq.Equal
public import proofs.«01_k».proof.Proof.Vq.Finite

@[expose] public section

noncomputable section

namespace Cert.Proof

open Idealize.ShloMosaic Idealize.ShloMosaic.TcCoe Idealize.SL.Sem
open Cert.Proof.Vq

/-- The kernel's run over the extended reals, from any memory: every list word names a row of the table. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (QC m) :=
  run_main m g (fi_lt m)

/-- From any memory the kernel runs to its end without a fault, its arguments end unchanged and every semaphore at zero. -/
theorem kernel_frame : Cert.quiescent_KernelIdeal := fun m g _ =>
  (θ_run Cert.KernelIdeal.defs Cert.KernelIdeal.threads _).mono
    (fun r h => ⟨fun c => ⟨(h.1 c _ (Pipeline.devRef_mem_ucRefs rfl)).trans (W7_arg0 m c), (h.1 c _ (Pipeline.devRef_mem_ucRefs rfl)).trans (W7_arg1 m c),
      (h.1 c _ (Pipeline.devRef_mem_ucRefs rfl)).trans (W7_arg2 m c), (h.1 c _ (Pipeline.devRef_mem_ucRefs rfl)).trans (W7_arg3 m c)⟩, h.2⟩)
    (kernel_run m g)

/-- From any memory the reference runs to its end, its arguments end unchanged and every semaphore at zero. -/
theorem reference_frame : Cert.quiescent_ReferenceIdeal := fun m g _ =>
  (θ_run Cert.ReferenceIdeal.defs _ _).mono
    (fun r h => ⟨fun c => (h c).2.2.2.2, sem_eq_zero_of_no_sems (by decide) r.2⟩)
    (Ref.run m g)

/-- On finite arguments that agree, the kernel and the reference end with equal results: the quantized vectors, the
    encodings, the distances and the perplexity. -/
theorem results_equal : Cert.algebraic_KernelIdeal_ReferenceIdeal_pre_finite := fun m g m' g' hpre hagree => by
  have hr : ∀ c, RealArgs m c := fun c => of_finite _ _ _ _ (hpre c)
  refine ⟨fun c => W7 m c (Cert.KernelIdeal.main_v4 : DevRef _ _), fun c => W7 m c (Cert.KernelIdeal.main_v6 : DevRef _ _),
    fun c => W7 m c (Cert.KernelIdeal.main_v5 : DevRef _ _), fun c => W7 m c (Cert.KernelIdeal.main_v7 : DevRef _ _), ?_, ?_⟩
  · refine (θ_run Cert.KernelIdeal.defs Cert.KernelIdeal.threads _).mono (fun r h c => ?_) (kernel_run m g)
    exact ⟨h.1 c _ (Pipeline.devRef_mem_ucRefs rfl), h.1 c _ (Pipeline.devRef_mem_ucRefs rfl), h.1 c _ (Pipeline.devRef_mem_ucRefs rfl),
      h.1 c _ (Pipeline.devRef_mem_ucRefs rfl),
      (h.1 c _ (Pipeline.devRef_mem_ucRefs rfl)).trans (W7_arg0 m c), (h.1 c _ (Pipeline.devRef_mem_ucRefs rfl)).trans (W7_arg1 m c),
      (h.1 c _ (Pipeline.devRef_mem_ucRefs rfl)).trans (W7_arg2 m c), (h.1 c _ (Pipeline.devRef_mem_ucRefs rfl)).trans (W7_arg3 m c)⟩
  · refine (θ_run Cert.ReferenceIdeal.defs _ _).mono (fun r h c => ?_) (Ref.run m' g')
    obtain ⟨hq, he, hd, hp, hargs⟩ := h c
    obtain ⟨a0, a1, a2, a3⟩ := hagree c
    rw [a0, a1, a2, a3] at hq he hd hp
    exact ⟨hq.trans (quant_eq (hr c)).symm, he.trans (enc_eq (hr c)).symm, hd.trans (dist_eq (hr c)).symm, hp.trans (ppl_eq (hr c)).symm, hargs⟩

/-- Everything the certificate claims. -/
theorem claim : Cert.Claim := ⟨Cert.KernelIdeal.Gen.facts, Cert.ReferenceIdeal.Gen.facts, Cert.Pre_finite.Gen.facts,
  kernel_frame, fun m g _ => kernel_frame m g trivial, reference_frame, fun m g _ => reference_frame m g trivial, results_equal⟩

end Cert.Proof

end
